-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree [hPre_tree : Cert.Pre_tree.Facts] (m : (ℓ : Loc Cert.KernelIdeal.nD Cert.KernelIdeal.τ Cert.KernelIdeal.sig) → Buf (Elt Ideal) ℓ) : Prop :=
  ∀ c : Dev Cert.KernelIdeal.nD,
    (Cert.Pre_tree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree [hPre_tree : Cert.Pre_tree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tree [hKernelIdeal : Cert.KernelIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tree [hReferenceIdeal : Cert.ReferenceIdeal.Facts] [hPre_tree : Cert.Pre_tree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "tenth" .f32 0x3DCCCCCD#32 ((10⁻¹ : ℝ) : EReal)

def algebraic_KernelIdeal_ReferenceIdeal_pre_tree [hKernelIdeal : Cert.KernelIdeal.Facts] [hReferenceIdeal : Cert.ReferenceIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tree : Cert.Pre_tree.Facts),
    quiescent_Kernel (hKernel := hKernel)
    ∧ quiescent_KernelIdeal (hKernelIdeal := hKernelIdeal)
    ∧ quiescent_KernelIdeal_pre_tree (hKernelIdeal := hKernelIdeal) (hPre_tree := hPre_tree)
    ∧ quiescent_ReferenceIdeal (hReferenceIdeal := hReferenceIdeal)
    ∧ quiescent_ReferenceIdeal_pre_tree (hReferenceIdeal := hReferenceIdeal) (hPre_tree := hPre_tree)
    ∧ preserves_Kernel_KernelIdeal
    ∧ algebraic_KernelIdeal_ReferenceIdeal_pre_tree (hKernelIdeal := hKernelIdeal) (hReferenceIdeal := hReferenceIdeal) (hPre_tree := hPre_tree)
-- ==== Pre_tree.lean ====
abbrev S1 : Shape := ⟨1, ![1]⟩
abbrev S1001x128 : Shape := ⟨2, ![1001, 128]⟩
abbrev S1001x1 : Shape := ⟨2, ![1001, 1]⟩
abbrev S1000 : Shape := ⟨1, ![1000]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel

variable [Facts]

def fn_where {F : FTy → Type} [FloatOps F] (arg0 : IVec S1000 1) (arg1 : IVec S1000 32) (arg2 : IVec S1000 32) : IVec S1000 32 :=
  let v0 : IVec S1000 32 := select arg0 arg1 arg2
  v0

def fn_floor_divide {F : FTy → Type} [FloatOps F] (arg0 : IVec S1000 32) (arg1 : IVec S_ 32) : IVec S1000 32 :=
  let v0 : IVec S_ 32 := id arg1
  let v1 : IVec S1000 32 := broadcastInDim S1000 ![] bcast_S_S1000 v0
  let v2 : IVec S1000 32 := Host.divsi arg0 v1
  let v3 : IVec S1000 32 := signi arg0
  let v4 : IVec S_ 32 := signi v0
  let v5 : IVec S1000 32 := broadcastInDim S1000 ![] bcast_S_S1000 v4
  let v6 : IVec S1000 1 := cmpi .ne v3 v5
  let v7 : IVec S1000 32 := broadcastInDim S1000 ![] bcast_S_S1000 v0
  let v8 : IVec S1000 32 := Host.remsi arg0 v7
  let c : IVec S_ 32 := constantI S_ 32 0#32
  let v9 : IVec S1000 32 := broadcastInDim S1000 ![] bcast_S_S1000 c
  let v10 : IVec S1000 1 := cmpi .ne v8 v9
  let v11 : IVec S1000 1 := andi v6 v10
  let c_0 : IVec S_ 32 := constantI S_ 32 1#32
  let v12 : IVec S1000 32 := broadcastInDim S1000 ![] bcast_S_S1000 c_0
  let v13 : IVec S1000 32 := subi v2 v12
  let v14 : IVec S1000 32 := fn_where (F := F) v11 v13 v2
  v14

def fn {F : FTy → Type} [FloatOps F] (main_arg0 : FVec F S1 .f32) (main_arg1 : FVec F S1001x128 .f32) (main_arg2 : FVec F S1001x128 .f32) (main_arg3 : FVec F S1001x1 .f32) (main_arg4 : IVec S1000 32) (main_arg5 : IVec S1000 32) (main_arg6 : IVec S1000 32) : IVec S_ 1 :=
  let main_v0 : IVec S1000 32 := iotaInDim S1000 32 0
  let main_c : IVec S_ 32 := constantI S_ 32 10#32
  let main_v1 : IVec S1000 32 := fn_floor_divide (F := F) main_v0 main_c
  let main_v2 : IVec S1000 1 := cmpi .eq main_arg4 main_v1
  let main_c_0 : IVec S_ 1 := constantI S_ 1 1#1
  let main_v3 : IVec S_ 1 := (fun x v => Host.reduce IntOp.andi x v reducesTo_S1000_S_d0 h_S_) main_v2 main_c_0
  let main_v4 : IVec S1000 32 := iotaInDim S1000 32 0
  let main_c_1 : IVec S_ 32 := constantI S_ 32 1#32
  let main_v5 : IVec S1000 32 := broadcastInDim S1000 ![] bcast_S_S1000 main_c_1
  let main_v6 : IVec S1000 32 := addi main_v4 main_v5
  let main_v7 : IVec S1000 1 := cmpi .eq main_arg5 main_v6
  let main_c_2 : IVec S_ 1 := constantI S_ 1 1#1
  let main_v8 : IVec S_ 1 := (fun x v => Host.reduce IntOp.andi x v reducesTo_S1000_S_d0 h_S_) main_v7 main_c_2
  let main_v9 : IVec S_ 1 := andi main_v3 main_v8
  let main_v10 : IVec S1000 1 := cmpi .eq main_arg6 main_v1
  let main_c_3 : IVec S_ 1 := constantI S_ 1 1#1
  let main_v11 : IVec S_ 1 := (fun x v => Host.reduce IntOp.andi x v reducesTo_S1000_S_d0 h_S_) main_v10 main_c_3
  let main_v12 : IVec S_ 1 := andi main_v9 main_v11
  main_v12
-- ==== Kernel.lean ====
abbrev S1 : Shape := ⟨1, ![1]⟩
abbrev S1001x128 : Shape := ⟨2, ![1001, 128]⟩
abbrev S1001x1 : Shape := ⟨2, ![1001, 1]⟩
abbrev S1000 : Shape := ⟨1, ![1000]⟩
abbrev S1001 : Shape := ⟨1, ![1001]⟩
abbrev S_ : Shape := ⟨0, ![]⟩
abbrev S1024 : Shape := ⟨1, ![1024]⟩
abbrev S29x128 : Shape := ⟨2, ![29, 128]⟩
abbrev S4x128 : Shape := ⟨2, ![4, 128]⟩
abbrev S40x128 : Shape := ⟨2, ![40, 128]⟩
abbrev S2x128 : Shape := ⟨2, ![2, 128]⟩
abbrev S16 : Shape := ⟨1, ![16]⟩
abbrev S1x16 : Shape := ⟨2, ![1, 16]⟩

abbrev nBuf : Table → Nat
  | .hbm => 12
  | .local .scVector .vmem => 9
  | _ => 0

abbrev bufTy : (tb : Table) → Fin (nBuf tb) → BufTy
  | .hbm, ⟨0, _⟩ => ⟨S1, .f32⟩
  | .hbm, ⟨1, _⟩ => ⟨S1001x128, .f32⟩
  | .hbm, ⟨2, _⟩ => ⟨S1001x128, .f32⟩
  | .hbm, ⟨3, _⟩ => ⟨S1001x1, .f32⟩
  | .hbm, ⟨4, _⟩ => ⟨S1000, .i32⟩
  | .hbm, ⟨5, _⟩ => ⟨S1000, .i32⟩
  | .hbm, ⟨6, _⟩ => ⟨S1000, .i32⟩
  | .hbm, ⟨7, _⟩ => ⟨S1001, .f32⟩
  | .hbm, ⟨8, _⟩ => ⟨S_, .i32⟩
  | .hbm, ⟨9, _⟩ => ⟨S_, .f32⟩
  | .hbm, ⟨10, _⟩ => ⟨S1024, .f32⟩
  | .hbm, ⟨11, _⟩ => ⟨S1001x128, .f32⟩
  | .local .scVector .vmem, ⟨0, _⟩ => ⟨S1024, .f32⟩
  | .local .scVector .vmem, ⟨1, _⟩ => ⟨S29x128, .f32⟩
  | .local .scVector .vmem, ⟨2, _⟩ => ⟨S4x128, .f32⟩
  | .local .scVector .vmem, ⟨3, _⟩ => ⟨S4x128, .f32⟩
  | .local .scVector .vmem, ⟨4, _⟩ => ⟨S29x128, .f32⟩
  | .local .scVector .vmem, ⟨5, _⟩ => ⟨S40x128, .f32⟩
  | .local .scVector .vmem, ⟨6, _⟩ => ⟨S2x128, .f32⟩
  | .local .scVector .vmem, ⟨7, _⟩ => ⟨S2x128, .f32⟩
  | .local .scVector .vmem, ⟨8, _⟩ => ⟨S4x128, .f32⟩
  | _, _ => ⟨S1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_arg1_scv : Ref sig .scVector := ⟨.hbm, 1, rfl⟩
abbrev main_arg2_scv : Ref sig .scVector := ⟨.hbm, 2, rfl⟩
abbrev main_v1_scv : Ref sig .scVector := ⟨.hbm, 10, rfl⟩
abbrev main_v2_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_5_r1 : BitVec 32 := 0#32
  ![v4.toNat, 0]
def k0_off2 (i : grid0.Coords) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c1_i32 : BitVec 32 := 1#32
  let v5 : BitVec 32 := Scalar.subi v4 c1_i32
  let c10_i32 : BitVec 32 := 10#32
  let v6 : BitVec 32 := Scalar.divsi v5 c10_i32
  let c0_i32_5_r2 : BitVec 32 := 0#32
  ![v6.toNat, 0]
@[reducible] def k0_t1_loop : Scf.Loop 32 :=
  let c0_i32_0 : BitVec 32 := 0#32
  let c29_i32_1 : BitVec 32 := 29#32
  let v7 : BitVec 32 := Scalar.addi c0_i32_0 c29_i32_1
  let c1_i32_2 : BitVec 32 := 1#32
  ⟨c0_i32_0, v7, c1_i32_2⟩
def k0_off3 (i : grid0.Coords) (k0_t1 : Fin k0_t1_loop.trips) : Fin 1 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let v15 : Index := Scalar.indexCast v11
  ![v15.toNat]
def k0_off4 (i : grid0.Coords) (k0_t1 : Fin k0_t1_loop.trips) : Fin 1 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c1_i32 : BitVec 32 := 1#32
  let v5 : BitVec 32 := Scalar.subi v4 c1_i32
  let c10_i32 : BitVec 32 := 10#32
  let v6 : BitVec 32 := Scalar.divsi v5 c10_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let v14 : BitVec 32 := Scalar.subi v13 v6
  let v20 : BitVec 32 := Scalar.addi v6 v14
  let v21 : Index := Scalar.indexCast v20
  ![v21.toNat]
def k0_off5 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v26 : Index := Scalar.indexCast v14
  let c0 : Index := 0#32
  ![v26.toNat, 0]
def k0_off6 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v40 : Index := Scalar.indexCast arg15
  let c0_8 : Index := 0#32
  ![v40.toNat, 0]
def k0_off7 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v51 : Index := Scalar.indexCast v14
  let c16 : Index := 16#32
  ![v51.toNat, 16]
def k0_off8 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v65 : Index := Scalar.indexCast arg15
  let c16_13 : Index := 16#32
  ![v65.toNat, 16]
def k0_off9 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v76 : Index := Scalar.indexCast v14
  let c32 : Index := 32#32
  ![v76.toNat, 32]
def k0_off10 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v90 : Index := Scalar.indexCast arg15
  let c32_18 : Index := 32#32
  ![v90.toNat, 32]
def k0_off11 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v101 : Index := Scalar.indexCast v14
  let c48 : Index := 48#32
  ![v101.toNat, 48]
def k0_off12 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v115 : Index := Scalar.indexCast arg15
  let c48_23 : Index := 48#32
  ![v115.toNat, 48]
def k0_off13 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v126 : Index := Scalar.indexCast v14
  let c64 : Index := 64#32
  ![v126.toNat, 64]
def k0_off14 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v140 : Index := Scalar.indexCast arg15
  let c64_28 : Index := 64#32
  ![v140.toNat, 64]
def k0_off15 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v151 : Index := Scalar.indexCast v14
  let c80 : Index := 80#32
  ![v151.toNat, 80]
def k0_off16 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v165 : Index := Scalar.indexCast arg15
  let c80_33 : Index := 80#32
  ![v165.toNat, 80]
def k0_off17 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v176 : Index := Scalar.indexCast v14
  let c96 : Index := 96#32
  ![v176.toNat, 96]
def k0_off18 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v190 : Index := Scalar.indexCast arg15
  let c96_38 : Index := 96#32
  ![v190.toNat, 96]
def k0_off19 (i : grid0.Coords) (k0_t1 : Fin k0_t1_loop.trips) : Fin 2 → Nat :=
  let c100_i32 : BitVec 32 := 100#32
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c29_i32 v1
  let v3 : BitVec 32 := Scalar.addi c100_i32 v2
  let c972_i32 : BitVec 32 := 972#32
  let v4 : BitVec 32 := Scalar.minsi v3 c972_i32
  let c0_i32_0 : BitVec 32 := 0#32
  let c1_i32_2 : BitVec 32 := 1#32
  let arg15 : BitVec 32 := Scf.iv c0_i32_0 c1_i32_2 k0_t1
  let v11 : BitVec 32 := Scalar.addi v4 arg15
  let c1_i32_5 : BitVec 32 := 1#32
  let v12 : BitVec 32 := Scalar.subi v11 c1_i32_5
  let c10_i32_6 : BitVec 32 := 10#32
  let v13 : BitVec 32 := Scalar.divsi v12 c10_i32_6
  let c1_i32 : BitVec 32 := 1#32
  let v5 : BitVec 32 := Scalar.subi v4 c1_i32
  let c10_i32 : BitVec 32 := 10#32
  let v6 : BitVec 32 := Scalar.divsi v5 c10_i32
  let v14 : BitVec 32 := Scalar.subi v13 v6
  let v201 : Index := Scalar.indexCast v14
  let c112 : Index := 112#32
  ![v201.toNat, 112]
def k0_off20 (k0_t1 : Fin k0_t1_loop.trips) : Fin 2 → Nat :=
  let c0_i32_0 : BitVec 32 := 0#32
  let c1_i32_2 : BitVec 32 := 1#32
  let arg15 : BitVec 32 := Scf.iv c0_i32_0 c1_i32_2 k0_t1
  let v215 : Index := Scalar.indexCast arg15
  let c112_43 : Index := 112#32
  ![v215.toNat, 112]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v8 : BitVec 1 := Scalar.cmpi .slt v1 c25_i32
  let v9 : BitVec 32 := Scalar.extui v8
  let c0_i32_4 : BitVec 32 := 0#32
  let v10 : BitVec 1 := Scalar.cmpi .ne v9 c0_i32_4
  v10

def k0_off21 (i : grid0.Coords) : Fin 2 → Nat :=
  let c10_i32_9 : BitVec 32 := 10#32
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let v16 : BitVec 32 := Scalar.muli c10_i32_9 v11
  let c1_i32_10 : BitVec 32 := 1#32
  let v17 : BitVec 32 := Scalar.addi v16 c1_i32_10
  let c0_i32_16_r5 : BitVec 32 := 0#32
  ![v17.toNat, 0]
def k0_off22 (i : grid0.Coords) : Fin 2 → Nat :=
  let c4_i32_5 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let c0_i32_16_r6 : BitVec 32 := 0#32
  ![v15.toNat, 0]
@[reducible] def k0_t2_loop : Scf.Loop 32 :=
  let c0_i32_12 : BitVec 32 := 0#32
  let c4_i32_13 : BitVec 32 := 4#32
  let v18 : BitVec 32 := Scalar.addi c0_i32_12 c4_i32_13
  let c1_i32_14 : BitVec 32 := 1#32
  ⟨c0_i32_12, v18, c1_i32_14⟩
def k0_off23 (i : grid0.Coords) (k0_t2 : Fin k0_t2_loop.trips) : Fin 1 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let v24 : Index := Scalar.indexCast v19
  ![v24.toNat]
def k0_off24 (i : grid0.Coords) (k0_t2 : Fin k0_t2_loop.trips) : Fin 1 → Nat :=
  let c4_i32_5 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let c4_i32 : BitVec 32 := 4#32
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let v23 : BitVec 32 := Scalar.subi v22 v15
  let v29 : BitVec 32 := Scalar.addi v15 v23
  let v30 : Index := Scalar.indexCast v29
  ![v30.toNat]
def k0_off25 (k0_t2 : Fin k0_t2_loop.trips) : Fin 2 → Nat :=
  let c10_i32_20 : BitVec 32 := 10#32
  let c0_i32_12 : BitVec 32 := 0#32
  let c1_i32_14 : BitVec 32 := 1#32
  let arg15 : BitVec 32 := Scf.iv c0_i32_12 c1_i32_14 k0_t2
  let v38 : BitVec 32 := Scalar.muli c10_i32_20 arg15
  let v39 : Index := Scalar.indexCast v38
  let c0 : Index := 0#32
  ![v39.toNat, 0]
def k0_off26 (k0_t2 : Fin k0_t2_loop.trips) (c1_i32_22 : BitVec 32) : Fin 2 → Nat :=
  let c10_i32_21 : BitVec 32 := 10#32
  let c0_i32_12 : BitVec 32 := 0#32
  let c1_i32_14 : BitVec 32 := 1#32
  let arg15 : BitVec 32 := Scf.iv c0_i32_12 c1_i32_14 k0_t2
  let v42 : BitVec 32 := Scalar.muli c10_i32_21 arg15
  let v43 : BitVec 32 := Scalar.addi v42 c1_i32_22
  let v44 : Index := Scalar.indexCast v43
  let c0_23 : Index := 0#32
  ![v44.toNat, 0]
def k0_off27 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v98 : Index := Scalar.indexCast v23
  let c0_42 : Index := 0#32
  ![v98.toNat, 0]
def k0_off28 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v125 : Index := Scalar.indexCast arg15
  let c0_49 : Index := 0#32
  ![v125.toNat, 0]
def k0_off29 (k0_t2 : Fin k0_t2_loop.trips) : Fin 2 → Nat :=
  let c10_i32_50 : BitVec 32 := 10#32
  let c0_i32_12 : BitVec 32 := 0#32
  let c1_i32_14 : BitVec 32 := 1#32
  let arg15 : BitVec 32 := Scf.iv c0_i32_12 c1_i32_14 k0_t2
  let v129 : BitVec 32 := Scalar.muli c10_i32_50 arg15
  let v130 : Index := Scalar.indexCast v129
  let c16 : Index := 16#32
  ![v130.toNat, 16]
def k0_off30 (k0_t2 : Fin k0_t2_loop.trips) (c1_i32_52 : BitVec 32) : Fin 2 → Nat :=
  let c10_i32_51 : BitVec 32 := 10#32
  let c0_i32_12 : BitVec 32 := 0#32
  let c1_i32_14 : BitVec 32 := 1#32
  let arg15 : BitVec 32 := Scf.iv c0_i32_12 c1_i32_14 k0_t2
  let v133 : BitVec 32 := Scalar.muli c10_i32_51 arg15
  let v134 : BitVec 32 := Scalar.addi v133 c1_i32_52
  let v135 : Index := Scalar.indexCast v134
  let c16_53 : Index := 16#32
  ![v135.toNat, 16]
def k0_off31 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v189 : Index := Scalar.indexCast v23
  let c16_79 : Index := 16#32
  ![v189.toNat, 16]
def k0_off32 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v216 : Index := Scalar.indexCast arg15
  let c16_86 : Index := 16#32
  ![v216.toNat, 16]
def k0_off33 (k0_t2 : Fin k0_t2_loop.trips) : Fin 2 → Nat :=
  let c10_i32_87 : BitVec 32 := 10#32
  let c0_i32_12 : BitVec 32 := 0#32
  let c1_i32_14 : BitVec 32 := 1#32
  let arg15 : BitVec 32 := Scf.iv c0_i32_12 c1_i32_14 k0_t2
  let v220 : BitVec 32 := Scalar.muli c10_i32_87 arg15
  let v221 : Index := Scalar.indexCast v220
  let c32 : Index := 32#32
  ![v221.toNat, 32]
def k0_off34 (k0_t2 : Fin k0_t2_loop.trips) (c1_i32_89 : BitVec 32) : Fin 2 → Nat :=
  let c10_i32_88 : BitVec 32 := 10#32
  let c0_i32_12 : BitVec 32 := 0#32
  let c1_i32_14 : BitVec 32 := 1#32
  let arg15 : BitVec 32 := Scf.iv c0_i32_12 c1_i32_14 k0_t2
  let v224 : BitVec 32 := Scalar.muli c10_i32_88 arg15
  let v225 : BitVec 32 := Scalar.addi v224 c1_i32_89
  let v226 : Index := Scalar.indexCast v225
  let c32_90 : Index := 32#32
  ![v226.toNat, 32]
def k0_off35 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v280 : Index := Scalar.indexCast v23
  let c32_116 : Index := 32#32
  ![v280.toNat, 32]
def k0_off36 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v307 : Index := Scalar.indexCast arg15
  let c32_123 : Index := 32#32
  ![v307.toNat, 32]
def k0_off37 (k0_t2 : Fin k0_t2_loop.trips) : Fin 2 → Nat :=
  let c10_i32_124 : BitVec 32 := 10#32
  let c0_i32_12 : BitVec 32 := 0#32
  let c1_i32_14 : BitVec 32 := 1#32
  let arg15 : BitVec 32 := Scf.iv c0_i32_12 c1_i32_14 k0_t2
  let v311 : BitVec 32 := Scalar.muli c10_i32_124 arg15
  let v312 : Index := Scalar.indexCast v311
  let c48 : Index := 48#32
  ![v312.toNat, 48]
def k0_off38 (k0_t2 : Fin k0_t2_loop.trips) (c1_i32_126 : BitVec 32) : Fin 2 → Nat :=
  let c10_i32_125 : BitVec 32 := 10#32
  let c0_i32_12 : BitVec 32 := 0#32
  let c1_i32_14 : BitVec 32 := 1#32
  let arg15 : BitVec 32 := Scf.iv c0_i32_12 c1_i32_14 k0_t2
  let v315 : BitVec 32 := Scalar.muli c10_i32_125 arg15
  let v316 : BitVec 32 := Scalar.addi v315 c1_i32_126
  let v317 : Index := Scalar.indexCast v316
  let c48_127 : Index := 48#32
  ![v317.toNat, 48]
def k0_off39 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v371 : Index := Scalar.indexCast v23
  let c48_153 : Index := 48#32
  ![v371.toNat, 48]
def k0_off40 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v398 : Index := Scalar.indexCast arg15
  let c48_160 : Index := 48#32
  ![v398.toNat, 48]
def k0_off41 (k0_t2 : Fin k0_t2_loop.trips) : Fin 2 → Nat :=
  let c10_i32_161 : BitVec 32 := 10#32
  let c0_i32_12 : BitVec 32 := 0#32
  let c1_i32_14 : BitVec 32 := 1#32
  let arg15 : BitVec 32 := Scf.iv c0_i32_12 c1_i32_14 k0_t2
  let v402 : BitVec 32 := Scalar.muli c10_i32_161 arg15
  let v403 : Index := Scalar.indexCast v402
  let c64 : Index := 64#32
  ![v403.toNat, 64]
def k0_off42 (k0_t2 : Fin k0_t2_loop.trips) (c1_i32_163 : BitVec 32) : Fin 2 → Nat :=
  let c10_i32_162 : BitVec 32 := 10#32
  let c0_i32_12 : BitVec 32 := 0#32
  let c1_i32_14 : BitVec 32 := 1#32
  let arg15 : BitVec 32 := Scf.iv c0_i32_12 c1_i32_14 k0_t2
  let v406 : BitVec 32 := Scalar.muli c10_i32_162 arg15
  let v407 : BitVec 32 := Scalar.addi v406 c1_i32_163
  let v408 : Index := Scalar.indexCast v407
  let c64_164 : Index := 64#32
  ![v408.toNat, 64]
def k0_off43 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v462 : Index := Scalar.indexCast v23
  let c64_190 : Index := 64#32
  ![v462.toNat, 64]
def k0_off44 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v489 : Index := Scalar.indexCast arg15
  let c64_197 : Index := 64#32
  ![v489.toNat, 64]
def k0_off45 (k0_t2 : Fin k0_t2_loop.trips) : Fin 2 → Nat :=
  let c10_i32_198 : BitVec 32 := 10#32
  let c0_i32_12 : BitVec 32 := 0#32
  let c1_i32_14 : BitVec 32 := 1#32
  let arg15 : BitVec 32 := Scf.iv c0_i32_12 c1_i32_14 k0_t2
  let v493 : BitVec 32 := Scalar.muli c10_i32_198 arg15
  let v494 : Index := Scalar.indexCast v493
  let c80 : Index := 80#32
  ![v494.toNat, 80]
def k0_off46 (k0_t2 : Fin k0_t2_loop.trips) (c1_i32_200 : BitVec 32) : Fin 2 → Nat :=
  let c10_i32_199 : BitVec 32 := 10#32
  let c0_i32_12 : BitVec 32 := 0#32
  let c1_i32_14 : BitVec 32 := 1#32
  let arg15 : BitVec 32 := Scf.iv c0_i32_12 c1_i32_14 k0_t2
  let v497 : BitVec 32 := Scalar.muli c10_i32_199 arg15
  let v498 : BitVec 32 := Scalar.addi v497 c1_i32_200
  let v499 : Index := Scalar.indexCast v498
  let c80_201 : Index := 80#32
  ![v499.toNat, 80]
def k0_off47 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v553 : Index := Scalar.indexCast v23
  let c80_227 : Index := 80#32
  ![v553.toNat, 80]
def k0_off48 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v580 : Index := Scalar.indexCast arg15
  let c80_234 : Index := 80#32
  ![v580.toNat, 80]
def k0_off49 (k0_t2 : Fin k0_t2_loop.trips) : Fin 2 → Nat :=
  let c10_i32_235 : BitVec 32 := 10#32
  let c0_i32_12 : BitVec 32 := 0#32
  let c1_i32_14 : BitVec 32 := 1#32
  let arg15 : BitVec 32 := Scf.iv c0_i32_12 c1_i32_14 k0_t2
  let v584 : BitVec 32 := Scalar.muli c10_i32_235 arg15
  let v585 : Index := Scalar.indexCast v584
  let c96 : Index := 96#32
  ![v585.toNat, 96]
def k0_off50 (k0_t2 : Fin k0_t2_loop.trips) (c1_i32_237 : BitVec 32) : Fin 2 → Nat :=
  let c10_i32_236 : BitVec 32 := 10#32
  let c0_i32_12 : BitVec 32 := 0#32
  let c1_i32_14 : BitVec 32 := 1#32
  let arg15 : BitVec 32 := Scf.iv c0_i32_12 c1_i32_14 k0_t2
  let v588 : BitVec 32 := Scalar.muli c10_i32_236 arg15
  let v589 : BitVec 32 := Scalar.addi v588 c1_i32_237
  let v590 : Index := Scalar.indexCast v589
  let c96_238 : Index := 96#32
  ![v590.toNat, 96]
def k0_off51 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v644 : Index := Scalar.indexCast v23
  let c96_264 : Index := 96#32
  ![v644.toNat, 96]
def k0_off52 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v671 : Index := Scalar.indexCast arg15
  let c96_271 : Index := 96#32
  ![v671.toNat, 96]
def k0_off53 (k0_t2 : Fin k0_t2_loop.trips) : Fin 2 → Nat :=
  let c10_i32_272 : BitVec 32 := 10#32
  let c0_i32_12 : BitVec 32 := 0#32
  let c1_i32_14 : BitVec 32 := 1#32
  let arg15 : BitVec 32 := Scf.iv c0_i32_12 c1_i32_14 k0_t2
  let v675 : BitVec 32 := Scalar.muli c10_i32_272 arg15
  let v676 : Index := Scalar.indexCast v675
  let c112 : Index := 112#32
  ![v676.toNat, 112]
def k0_off54 (k0_t2 : Fin k0_t2_loop.trips) (c1_i32_274 : BitVec 32) : Fin 2 → Nat :=
  let c10_i32_273 : BitVec 32 := 10#32
  let c0_i32_12 : BitVec 32 := 0#32
  let c1_i32_14 : BitVec 32 := 1#32
  let arg15 : BitVec 32 := Scf.iv c0_i32_12 c1_i32_14 k0_t2
  let v679 : BitVec 32 := Scalar.muli c10_i32_273 arg15
  let v680 : BitVec 32 := Scalar.addi v679 c1_i32_274
  let v681 : Index := Scalar.indexCast v680
  let c112_275 : Index := 112#32
  ![v681.toNat, 112]
def k0_off55 (i : grid0.Coords) (k0_t2 : Fin k0_t2_loop.trips) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_12 : BitVec 32 := 0#32
  let c1_i32_14 : BitVec 32 := 1#32
  let arg15 : BitVec 32 := Scf.iv c0_i32_12 c1_i32_14 k0_t2
  let v19 : BitVec 32 := Scalar.addi v11 arg15
  let c1_i32_16 : BitVec 32 := 1#32
  let v20 : BitVec 32 := Scalar.subi v19 c1_i32_16
  let c0_i32_17 : BitVec 32 := 0#32
  let v21 : BitVec 32 := Scalar.maxsi v20 c0_i32_17
  let c10_i32_18 : BitVec 32 := 10#32
  let v22 : BitVec 32 := Scalar.divsi v21 c10_i32_18
  let c4_i32_5 : BitVec 32 := 4#32
  let v12 : BitVec 32 := Scalar.muli c4_i32_5 v1
  let c1_i32_6 : BitVec 32 := 1#32
  let v13 : BitVec 32 := Scalar.subi v12 c1_i32_6
  let c0_i32_7 : BitVec 32 := 0#32
  let v14 : BitVec 32 := Scalar.maxsi v13 c0_i32_7
  let c10_i32_8 : BitVec 32 := 10#32
  let v15 : BitVec 32 := Scalar.divsi v14 c10_i32_8
  let v23 : BitVec 32 := Scalar.subi v22 v15
  let v735 : Index := Scalar.indexCast v23
  let c112_301 : Index := 112#32
  ![v735.toNat, 112]
def k0_off56 (k0_t2 : Fin k0_t2_loop.trips) : Fin 2 → Nat :=
  let c0_i32_12 : BitVec 32 := 0#32
  let c1_i32_14 : BitVec 32 := 1#32
  let arg15 : BitVec 32 := Scf.iv c0_i32_12 c1_i32_14 k0_t2
  let v762 : Index := Scalar.indexCast arg15
  let c112_308 : Index := 112#32
  ![v762.toNat, 112]
def k0_off57 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.muli c4_i32 v1
  let c0_i32_16_r8 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "tenth" => some ((10⁻¹ : ℝ) : EReal)
  | _ => none
-- ==== ReferenceIdeal.lean ====
abbrev S1 : Shape := ⟨1, ![1]⟩
abbrev S1001x128 : Shape := ⟨2, ![1001, 128]⟩
abbrev S1001x1 : Shape := ⟨2, ![1001, 1]⟩
abbrev S1000 : Shape := ⟨1, ![1000]⟩
abbrev S_ : Shape := ⟨0, ![]⟩
abbrev S1x128 : Shape := ⟨2, ![1, 128]⟩
abbrev S1000x1 : Shape := ⟨2, ![1000, 1]⟩
abbrev S1x1 : Shape := ⟨2, ![1, 1]⟩
abbrev S1000x128 : Shape := ⟨2, ![1000, 128]⟩
abbrev S100x128 : Shape := ⟨2, ![100, 128]⟩
abbrev S100 : Shape := ⟨1, ![100]⟩
abbrev S100x1 : Shape := ⟨2, ![100, 1]⟩
abbrev S901x128 : Shape := ⟨2, ![901, 128]⟩

abbrev nBuf : Space → Nat
  | .hbm => 86
  | .vmem => 0
  | .smem => 0
  | _ => 0

abbrev bufTy : (tb : Table) → Fin (tcTables nBuf tb) → BufTy
  | .hbm, ⟨0, _⟩ => ⟨S1, .f32⟩
  | .hbm, ⟨1, _⟩ => ⟨S1001x128, .f32⟩
  | .hbm, ⟨2, _⟩ => ⟨S1001x128, .f32⟩
  | .hbm, ⟨3, _⟩ => ⟨S1001x1, .f32⟩
  | .hbm, ⟨4, _⟩ => ⟨S1000, .i32⟩
  | .hbm, ⟨5, _⟩ => ⟨S1000, .i32⟩
  | .hbm, ⟨6, _⟩ => ⟨S1000, .i32⟩
  | .hbm, ⟨7, _⟩ => ⟨S1001x128, .f32⟩
  | .hbm, ⟨8, _⟩ => ⟨S1001x128, .f32⟩
  | .hbm, ⟨9, _⟩ => ⟨S_, .f32⟩
  | .hbm, ⟨10, _⟩ => ⟨S1001x1, .f32⟩
  | .hbm, ⟨11, _⟩ => ⟨S1001x1, .f32⟩
  | .hbm, ⟨12, _⟩ => ⟨S1001x128, .f32⟩
  | .hbm, ⟨13, _⟩ => ⟨S1001x128, .f32⟩
  | .hbm, ⟨14, _⟩ => ⟨S1001x128, .f32⟩
  | .hbm, ⟨15, _⟩ => ⟨S1x128, .f32⟩
  | .hbm, ⟨16, _⟩ => ⟨S_, .i32⟩
  | .hbm, ⟨17, _⟩ => ⟨S1000, .i32⟩
  | .hbm, ⟨18, _⟩ => ⟨S1000, .i1⟩
  | .hbm, ⟨19, _⟩ => ⟨S_, .i32⟩
  | .hbm, ⟨20, _⟩ => ⟨S1000, .i32⟩
  | .hbm, ⟨21, _⟩ => ⟨S1000, .i32⟩
  | .hbm, ⟨22, _⟩ => ⟨S1000, .i32⟩
  | .hbm, ⟨23, _⟩ => ⟨S1000x1, .i32⟩
  | .hbm, ⟨24, _⟩ => ⟨S1, .i32⟩
  | .hbm, ⟨25, _⟩ => ⟨S_, .i32⟩
  | .hbm, ⟨26, _⟩ => ⟨S1000x1, .i32⟩
  | .hbm, ⟨27, _⟩ => ⟨S1000x1, .i1⟩
  | .hbm, ⟨28, _⟩ => ⟨S1x1, .i32⟩
  | .hbm, ⟨29, _⟩ => ⟨S1000x1, .i32⟩
  | .hbm, ⟨30, _⟩ => ⟨S1000x1, .i1⟩
  | .hbm, ⟨31, _⟩ => ⟨S1000x1, .i1⟩
  | .hbm, ⟨32, _⟩ => ⟨S_, .i1⟩
  | .hbm, ⟨33, _⟩ => ⟨S1000, .i1⟩
  | .hbm, ⟨34, _⟩ => ⟨S1000x128, .f32⟩
  | .hbm, ⟨35, _⟩ => ⟨S1000x128, .i1⟩
  | .hbm, ⟨36, _⟩ => ⟨S_, .f32⟩
  | .hbm, ⟨37, _⟩ => ⟨S1000x128, .f32⟩
  | .hbm, ⟨38, _⟩ => ⟨S1000x128, .f32⟩
  | .hbm, ⟨39, _⟩ => ⟨S1001x128, .f32⟩
  | .hbm, ⟨40, _⟩ => ⟨S_, .i32⟩
  | .hbm, ⟨41, _⟩ => ⟨S1000, .i32⟩
  | .hbm, ⟨42, _⟩ => ⟨S1000, .i1⟩
  | .hbm, ⟨43, _⟩ => ⟨S_, .i32⟩
  | .hbm, ⟨44, _⟩ => ⟨S1000, .i32⟩
  | .hbm, ⟨45, _⟩ => ⟨S1000, .i32⟩
  | .hbm, ⟨46, _⟩ => ⟨S1000, .i32⟩
  | .hbm, ⟨47, _⟩ => ⟨S1000x1, .i32⟩
  | .hbm, ⟨48, _⟩ => ⟨S1, .i32⟩
  | .hbm, ⟨49, _⟩ => ⟨S_, .i32⟩
  | .hbm, ⟨50, _⟩ => ⟨S1000x1, .i32⟩
  | .hbm, ⟨51, _⟩ => ⟨S1000x1, .i1⟩
  | .hbm, ⟨52, _⟩ => ⟨S1x1, .i32⟩
  | .hbm, ⟨53, _⟩ => ⟨S1000x1, .i32⟩
  | .hbm, ⟨54, _⟩ => ⟨S1000x1, .i1⟩
  | .hbm, ⟨55, _⟩ => ⟨S1000x1, .i1⟩
  | .hbm, ⟨56, _⟩ => ⟨S_, .i1⟩
  | .hbm, ⟨57, _⟩ => ⟨S1000, .i1⟩
  | .hbm, ⟨58, _⟩ => ⟨S1000x128, .f32⟩
  | .hbm, ⟨59, _⟩ => ⟨S1000x128, .i1⟩
  | .hbm, ⟨60, _⟩ => ⟨S_, .f32⟩
  | .hbm, ⟨61, _⟩ => ⟨S1000x128, .f32⟩
  | .hbm, ⟨62, _⟩ => ⟨S1000x128, .f32⟩
  | .hbm, ⟨63, _⟩ => ⟨S_, .f32⟩
  | .hbm, ⟨64, _⟩ => ⟨S100x128, .f32⟩
  | .hbm, ⟨65, _⟩ => ⟨S1000x1, .i32⟩
  | .hbm, ⟨66, _⟩ => ⟨S100x128, .f32⟩
  | .hbm, ⟨67, _⟩ => ⟨S_, .f32⟩
  | .hbm, ⟨68, _⟩ => ⟨S1000, .f32⟩
  | .hbm, ⟨69, _⟩ => ⟨S_, .f32⟩
  | .hbm, ⟨70, _⟩ => ⟨S100, .f32⟩
  | .hbm, ⟨71, _⟩ => ⟨S1000x1, .i32⟩
  | .hbm, ⟨72, _⟩ => ⟨S100, .f32⟩
  | .hbm, ⟨73, _⟩ => ⟨S100x1, .f32⟩
  | .hbm, ⟨74, _⟩ => ⟨S100x128, .f32⟩
  | .hbm, ⟨75, _⟩ => ⟨S100x128, .f32⟩
  | .hbm, ⟨76, _⟩ => ⟨S901x128, .f32⟩
  | .hbm, ⟨77, _⟩ => ⟨S1001x128, .f32⟩
  | .hbm, ⟨78, _⟩ => ⟨S1001x128, .f32⟩
  | .hbm, ⟨79, _⟩ => ⟨S1001x128, .f32⟩
  | .hbm, ⟨80, _⟩ => ⟨S_, .f32⟩
  | .hbm, ⟨81, _⟩ => ⟨S1001x1, .f32⟩
  | .hbm, ⟨82, _⟩ => ⟨S1001x1, .f32⟩
  | .hbm, ⟨83, _⟩ => ⟨S1001x128, .f32⟩
  | .hbm, ⟨84, _⟩ => ⟨S1001x128, .f32⟩
  | .hbm, ⟨85, _⟩ => ⟨S1001x128, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_v9 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v10 : Ref sig .tc := ⟨.hbm, 62, rfl⟩
abbrev main_cst_0 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_1 : Ref sig .tc := ⟨.hbm, 67, rfl⟩
abbrev main_v14 : Ref sig .tc := ⟨.hbm, 68, rfl⟩
abbrev main_cst_2 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_3 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩

abbrev nD : Nat := 1
abbrev τ : Topo := Topo.v7x

variable {F : FTy → Type} [FloatOps F]
-- ==== Proof.Rows.lean ====
/-
  What the kernel computes, element by element, as plain functions of the arrays it reads: the embedding rows `s` and `t`, the
  mixing weights `lam` padded to 1024 entries, and the constant it multiplies a sum of ten rows by. A row `r` of 100 and above mixes its
  parent's row `(r - 1) / 10` of `s` and `t` by the parent's weight, and the outcome with row `r` of `t` by its own weight; a row below
  100 does the same with a tenth of the sum of its ten children's rows in place of row `r` of `t`, and with row `r` of `s` in place of the
  parent's mix when `r` is the root.
-/
module

public import Idealize.ShloMosaic.PureOps
public import Idealize.ShloMosaic.Lib.Writes
public import Idealize.ShloMosaic.Lib.Pipeline.Value

@[expose] public section

noncomputable section

namespace Cert.Proof.Rows

open Idealize.ShloMosaic

variable {F : FTy → Type} [FloatOps F]

/-- The shapes of the embedding arrays and of the padded weights. -/
abbrev SR : Shape := ⟨2, ![1001, 128]⟩
abbrev SL : Shape := ⟨1, ![1024]⟩

/-- Place `(r, c)` of an embedding array, the row taken modulo the array's height. -/
def rc (r : ℕ) (c : Fin 128) : SR.Idx :=
  fun | ⟨0, _⟩ => (⟨r % 1001, Nat.mod_lt _ (by decide)⟩ : Fin 1001) | ⟨1, _⟩ => c

/-- Place `r` of the padded weights. -/
def lx (r : ℕ) : SL.Idx := fun | ⟨0, _⟩ => (⟨r % 1024, Nat.mod_lt _ (by decide)⟩ : Fin 1024)

theorem rc_eq {r : ℕ} {c : Fin 128} {y : SR.Idx} (h0 : (y 0).val = r) (h1 : (y 1).val = c.val) : rc r c = y := by
  have hr : r < 1001 := h0 ▸ (y 0).isLt
  funext a
  match a with
  | ⟨0, _⟩ => exact Fin.ext ((Nat.mod_eq_of_lt hr).trans h0.symm)
  | ⟨1, _⟩ => exact Fin.ext h1.symm

theorem lx_eq {r : ℕ} {y : SL.Idx} (h0 : (y 0).val = r) : lx r = y := by
  have hr : r < 1024 := h0 ▸ (y 0).isLt
  funext a
  match a with
  | ⟨0, _⟩ => exact Fin.ext ((Nat.mod_eq_of_lt hr).trans h0.symm)

/-- The number one, as the kernel writes it. -/
def one : F .f32 := Scalar.ofBits .f32 0x3F800000#32

/-- `a` and `b` mixed by the weight `l`. -/
def mix (a b l : F .f32) : F .f32 := FloatOps.addf (FloatOps.mulf a l) (FloatOps.mulf b (Scalar.subf one l))

/-- One as a float at the root, zero at any other row. -/
def root (r : ℕ) : F .f32 := Scalar.sitofp .f32 (Scalar.extui (Scalar.cmpi .eq (BitVec.ofNat 32 r) 0#32))

variable (tenth : F .f32) (s t : SR.Idx → F .f32) (l : SL.Idx → F .f32)

/-- Element `c` of row `r` of 100 and above. -/
def hiRow (r : ℕ) (c : Fin 128) : F .f32 :=
  mix (mix (s (rc ((r - 1) / 10) c)) (t (rc ((r - 1) / 10) c)) (l (lx ((r - 1) / 10)))) (t (rc r c)) (l (lx r))

/-- The sum of the ten children's rows, in the kernel's order. -/
def kids (r : ℕ) (c : Fin 128) : F .f32 :=
  FloatOps.addf (FloatOps.addf (FloatOps.addf (FloatOps.addf (FloatOps.addf (FloatOps.addf (FloatOps.addf (FloatOps.addf (FloatOps.addf
    (t (rc (10 * r + 1) c)) (t (rc (10 * r + 2) c))) (t (rc (10 * r + 3) c))) (t (rc (10 * r + 4) c))) (t (rc (10 * r + 5) c)))
    (t (rc (10 * r + 6) c))) (t (rc (10 * r + 7) c))) (t (rc (10 * r + 8) c))) (t (rc (10 * r + 9) c))) (t (rc (10 * r + 10) c))

/-- Element `c` of row `r` below 100; the row of `s` that the root's flag selects is the first of the two parents' rows its tile holds. -/
def loRow (r : ℕ) (c : Fin 128) : F .f32 :=
  mix (FloatOps.addf (FloatOps.mulf (root r) (s (rc ((4 * (r / 4) - 1) / 10) c)))
      (FloatOps.mulf (Scalar.subf one (root r))
        (mix (s (rc ((r - 1) / 10) c)) (t (rc ((r - 1) / 10) c)) (l (lx ((r - 1) / 10))))))
    (FloatOps.mulf (kids t r c) tenth) (l (lx r))

/-- The whole result. -/
def G (y : SR.Idx) : F .f32 :=
  if (y 0).val < 100 then loRow tenth s t l (y 0).val (y 1) else hiRow s t l (y 0).val (y 1)

end Cert.Proof.Rows

end
-- ==== Proof.WriteOut.lean ====
/-
  Sharing one array among threads that write it: the array's elements are in write mode (each with a target value agreed on
  beforehand), a share of it goes to every thread, a thread's copy into its rows marks those rows as written, and the shares
  joined again carry every mark. Here are the two halves of that: the copy of a buffer out into an array held in write mode, as
  a transfer the issuing thread waits for; and the dealing of a write-mode array (and of a read-only one) into `n` shares and back.
-/
module

public import Idealize.ShloMosaic.Lib.WriteMode
public import Idealize.ShloMosaic.Lib.Transfers
public import Idealize.ShloMosaic.Lib.Tactic

@[expose] public section

noncomputable section

namespace Cert.Proof.WriteOut

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Tactic
open PCS URA

variable {nD : Nat} {τ : Topo} {sig : RefSig} {Ix : Type} [DecidableEq Ix] {Val : EltTy → Type} {Name : Type} [DecidableEq Name]
variable {U : Type} [URA U] {Lvl : Type} {emb : UEmb (WmRA nD τ sig Val) U}

local notation "𝕄" => MT nD τ sig Ix Val Name U Lvl

/-! ## Dealing shares -/

section Deal

variable {ℓ : Loc nD τ sig} {I : Finset (Idx ℓ)} {f : Buf Val ℓ} {g : Tgt Val ℓ}

/-- Two shares of a write-mode array, each with marks of its own, are their sum with the marks of both. -/
theorem willBeTo_share {q q₁ q₂ : PosShare TreeShare} {W₁ W₂ : Finset (Idx ℓ)} (h : q ∈ q₁ ·? q₂) :
    (willBeTo emb ℓ I q f g (W₁ ∪ W₂) : sProp 𝕄) ⊣⊢ iprop(willBeTo emb ℓ I q₁ f g W₁ ∗ willBeTo emb ℓ I q₂ f g W₂) :=
  BI.Region.held_share h fun i _ => by
    simp only [Finset.mem_union, Bool.decide_or]; exact Idealize.SL.RA.Region.WB.mem_mk_op_mk _ _ _ _

theorem assoc₃ (A B C : sProp 𝕄) : iprop((A ∗ B) ∗ C) = iprop(A ∗ B ∗ C) := by
  have h : iprop((A ∗ B) ∗ C) ⊣⊢ iprop(A ∗ B ∗ C) := sep_assoc
  exact BI.Entails.antisymm h.1 h.2

/-- A write-mode array with the marks `W 0 ∪ … ∪ W k`, as the `k` tokens with their own marks and the remainder with `W k`. -/
theorem willBeTo_toks (q : PosShare TreeShare) (k : ℕ) : ∀ W : ℕ → Finset (Idx ℓ),
    (willBeTo emb ℓ I q f g ((Finset.range (k + 1)).biUnion W) : sProp 𝕄)
      = iprop(willBeTo emb ℓ I (shareDrop q k) f g (W k) ∗ bigSep (Finset.range k) fun i => willBeTo emb ℓ I (shareTokN q i) f g (W i)) := by
  induction k with
  | zero =>
    intro W
    rw [Finset.range_zero, BI.bigSep_empty, zero_add, Finset.range_one, Finset.singleton_biUnion]
    exact BI.Entails.antisymm sep_emp.2 sep_emp.1
  | succ k ih =>
    intro W
    have hu : (Finset.range (k + 1 + 1)).biUnion W
        = (Finset.range (k + 1)).biUnion fun i => if i = k then W (k + 1) ∪ W k else W i := by
      ext x
      simp only [Finset.mem_biUnion, Finset.mem_range]
      constructor
      · rintro ⟨i, hi, hx⟩
        rcases Nat.lt_or_ge i k with h | h
        · exact ⟨i, by omega, by rw [if_neg (by omega)]; exact hx⟩
        · refine ⟨k, by omega, ?_⟩
          rw [if_pos rfl, Finset.mem_union]
          rcases (show i = k ∨ i = k + 1 by omega) with rfl | rfl
          · exact .inr hx
          · exact .inl hx
      · rintro ⟨i, hi, hx⟩
        split at hx
        · rcases Finset.mem_union.mp hx with h | h
          · exact ⟨k + 1, by omega, h⟩
          · exact ⟨k, by omega, h⟩
        · exact ⟨i, by omega, hx⟩
    have hs : (willBeTo emb ℓ I (shareDrop q k) f g (W (k + 1) ∪ W k) : sProp 𝕄)
        = iprop(willBeTo emb ℓ I (shareDrop q (k + 1)) f g (W (k + 1)) ∗ willBeTo emb ℓ I (shareTokN q k) f g (W k)) :=
      let h := willBeTo_share (emb := emb) (I := I) (f := f) (g := g) (W₁ := W (k + 1)) (W₂ := W k) (PosShare.mem_left_op_right (shareDrop q k))
      BI.Entails.antisymm h.1 h.2
    rw [hu, ih, if_pos rfl, hs, Finset.range_add_one, BI.bigSep_insert Finset.notMem_range_self,
      BI.bigSep_congr (fun i hi => by rw [if_neg (Finset.mem_range.mp hi).ne])]
    exact assoc₃ _ _ _

/-- A write-mode array dealt into `n + 1` shares, share `i` with the marks `W i`. -/
theorem willBeTo_deal (q : PosShare TreeShare) (n : ℕ) (W : ℕ → Finset (Idx ℓ)) :
    (willBeTo emb ℓ I q f g ((Finset.range (n + 1)).biUnion W) : sProp 𝕄)
      = bigSep Finset.univ fun i : Fin (n + 1) => willBeTo emb ℓ I (dealShare q (n + 1) i.val) f g (W i.val) := by
  rw [willBeTo_toks,
    show (bigSep Finset.univ fun i : Fin (n + 1) => (willBeTo emb ℓ I (dealShare q (n + 1) i.val) f g (W i.val) : sProp 𝕄))
        = bigSep (Finset.range (n + 1)) fun i => willBeTo emb ℓ I (dealShare q (n + 1) i) f g (W i) by
      rw [← Nat.Iio_eq_range, ← Fin.map_valEmbedding_univ, BI.bigSep_map]; rfl,
    Finset.range_add_one, BI.bigSep_insert Finset.notMem_range_self,
    show dealShare q (n + 1) n = shareDrop q n from if_neg (lt_irrefl _)]
  exact congrArg (fun X => iprop(willBeTo emb ℓ I (shareDrop q n) f g (W n) ∗ X)) (BI.bigSep_congr fun i hi => by
    rw [show dealShare q (n + 1) i = shareTokN q i from if_pos (Nat.succ_lt_succ (Finset.mem_range.mp hi))])

/-- A points-to dealt into `n + 1` shares. -/
theorem pointsTo_dealt (q : PosShare TreeShare) (n : ℕ) :
    (ℓ ↦[I]{q} f : sProp 𝕄) = bigSep Finset.univ fun i : Fin (n + 1) => ℓ ↦[I]{dealShare q (n + 1) i.val} f := by
  rw [show (bigSep Finset.univ fun i : Fin (n + 1) => (ℓ ↦[I]{dealShare q (n + 1) i.val} f : sProp 𝕄))
        = bigSep (Finset.range (n + 1)) fun i => ℓ ↦[I]{dealShare q (n + 1) i} f by
      rw [← Nat.Iio_eq_range, ← Fin.map_valEmbedding_univ, BI.bigSep_map]; rfl,
    Finset.range_add_one, BI.bigSep_insert Finset.notMem_range_self,
    show dealShare q (n + 1) n = shareDrop q n from if_neg (lt_irrefl _),
    BI.bigSep_congr (fun i hi => by rw [show dealShare q (n + 1) i = shareTokN q i from if_pos (Nat.succ_lt_succ (Finset.mem_range.mp hi))])]
  exact BI.Entails.antisymm (pointsTo_toks_range q n).1 (pointsTo_toks_range q n).2

end Deal

/-! ## Copying out -/

section Copy

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}
variable (EC : UEmb Counters (MT nD τ sig Ix Val Name U Lvl)) {ιwm : Name}

/-- A local copy whose destination is held in write mode at any share, on a semaphore the thread holds at zero: what the source
    holds being what the targets name, the thread goes on holding the copy's `Flight`, which delivers at the wait the destination's
    share with the written elements marked, and the source. -/
theorem wp_copyOut [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q qd : PosShare TreeShare} {Ss : Finset (Idx (src.view.loc c))}
    {fs : Buf Val (src.view.loc c)}
    {Sd : Finset (Idx (dst.view.loc c))} {fd : Buf Val (dst.view.loc c)} {g : Tgt Val (dst.view.loc c)} {W : Finset (Idx (dst.view.loc c))}
    (ι : Ix) (N : ℕ) (hN : dst.view.amount sm = N) (hN0 : 0 < N) (hSs : src.view.set = Ss) (hSd : dst.view.set ⊆ Sd)
    (hadm : dst.view.Admitted Val g (src.view.read Val fs) Finset.univ) :
    iprop(wmInv emb ιwm ∗ (src.view.loc c ↦[Ss]{q} fs) ∗ willBeTo emb (dst.view.loc c) Sd qd fd g W ∗ semVal (c, sm) 0)
      ⊢ iprop((Flight EC c sm ι N iprop(willBeTo emb (dst.view.loc c) Sd qd fd g (W ∪ dst.view.set) ∗ (src.view.loc c ↦[Ss]{q} fs))
              -∗ wp frame (wpE defs 𝒱 c bd) Set.univ (k ⟨⟩) Q)
          -∗ wp frame (wpE defs 𝒱 c bd) Set.univ (.op (.enqueueDma src (.here dst) sm hsrc hdst hsem) k) Q) := by
  subst hSs
  iintro ⟨#Hwm, Hs, Hd, Hv⟩ Hk
  imod (flight_alloc EC hN0 iprop(willBeTo emb (dst.view.loc c) Sd qd fd g (W ∪ dst.view.set) ∗ (src.view.loc c ↦[src.view.set]{q} fs))
    (g := (c, sm))) $$ Hv with ⟨%γ, %δ, %κ, #Hinv, Hγ, Hδ⟩
  iapply (wp_enqueueDma 𝒱 c bd Set.univ ι N hN) $$ [Hs Hd] [Hγ]
  · isplitl [Hs]; · iexact Hs
    iapply (willBeTo_writeUpdate (emb := emb) (ιwm := ιwm) c hSd hadm)
    isplitr; · iexact Hwm
    iexact Hd
  · iapply (flight_creditUpdate EC (δ := δ))
    isplitr; · iexact Hinv
    iexact Hγ
  iintro Hcred
  iapply Hk
  iapply (flight_intro EC c (κ := κ))
  isplitr; · iexact Hinv
  isplitl [Hδ] <;> iassumption

end Copy

end Cert.Proof.WriteOut

end
-- ==== Proof.OffsKernelIdeal.lean ====
/-
  Where the kernel's loads land, for the offsets its index arithmetic divides: the parent's weight, the parents' rows a tile holds, and the
  condition under which a tile has rows below 100 to compute.
-/
module

public import proofs.«01_k».proof.Proof.Gen.KernelIdeal
public import proofs.«01_k».proof.Proof.LaunchKernel

@[expose] public section

namespace Cert.Proof.KernelIdeal

open Cert.KernelIdeal Cert.KernelIdeal.Gen Idealize.ShloMosaic

/-- The first row of 100 and above that tile `i` computes. -/
def oa (i : grid0.Coords) : ℕ := min (58 * (i 1).val + 29 * (i 0).val + 100) 972

/-- The first row below 100 that tile `i` computes, when it computes any. -/
def ma (i : grid0.Coords) : ℕ := 8 * (i 1).val + 4 * (i 0).val

theorem oa_lo (i : grid0.Coords) : 100 ≤ oa i := by unfold oa; omega
theorem oa_hi (i : grid0.Coords) : oa i ≤ 972 := by unfold oa; omega

/-- The condition holds on the first 25 tiles. -/
theorem cond_ma : ∀ i : grid0.Coords, k0_cond1 i = 1#1 → ma i < 100 := by decide +kernel
theorem ma_cond : ∀ i : grid0.Coords, ma i < 100 → k0_cond1 i = 1#1 := by decide +kernel

theorem ma_mod (i : grid0.Coords) : 4 * (ma i / 4) = ma i := by unfold ma; omega

theorem off1_val (i : grid0.Coords) : k0_off1 i = ![oa i, 0] := k0_off1_eq i
theorem off2_val (i : grid0.Coords) : k0_off2 i = ![(oa i - 1) / 10, 0] := k0_off2_eq i
theorem off3_val (i : grid0.Coords) (k : Fin k0_t1_loop.trips) : k0_off3 i k = ![oa i + k.val] := k0_off3_eq i k
theorem off4_val : ∀ (i : grid0.Coords) (k : Fin k0_t1_loop.trips), k0_off4 i k = ![(oa i + k.val - 1) / 10] := by decide +kernel
theorem off5_val : ∀ (i : grid0.Coords) (k : Fin k0_t1_loop.trips),
    k0_off5 i k = ![(oa i + k.val - 1) / 10 - (oa i - 1) / 10, 0] := by decide +kernel
theorem off7_val : ∀ (i : grid0.Coords) (k : Fin k0_t1_loop.trips),
    k0_off7 i k = ![(oa i + k.val - 1) / 10 - (oa i - 1) / 10, 16] := by decide +kernel
theorem off9_val : ∀ (i : grid0.Coords) (k : Fin k0_t1_loop.trips),
    k0_off9 i k = ![(oa i + k.val - 1) / 10 - (oa i - 1) / 10, 32] := by decide +kernel
theorem off11_val : ∀ (i : grid0.Coords) (k : Fin k0_t1_loop.trips),
    k0_off11 i k = ![(oa i + k.val - 1) / 10 - (oa i - 1) / 10, 48] := by decide +kernel
theorem off13_val : ∀ (i : grid0.Coords) (k : Fin k0_t1_loop.trips),
    k0_off13 i k = ![(oa i + k.val - 1) / 10 - (oa i - 1) / 10, 64] := by decide +kernel
theorem off15_val : ∀ (i : grid0.Coords) (k : Fin k0_t1_loop.trips),
    k0_off15 i k = ![(oa i + k.val - 1) / 10 - (oa i - 1) / 10, 80] := by decide +kernel
theorem off17_val : ∀ (i : grid0.Coords) (k : Fin k0_t1_loop.trips),
    k0_off17 i k = ![(oa i + k.val - 1) / 10 - (oa i - 1) / 10, 96] := by decide +kernel
theorem off19_val : ∀ (i : grid0.Coords) (k : Fin k0_t1_loop.trips),
    k0_off19 i k = ![(oa i + k.val - 1) / 10 - (oa i - 1) / 10, 112] := by decide +kernel

theorem off21_val : ∀ i : grid0.Coords, k0_off21 i = ![10 * ma i + 1, 0] := by decide +kernel
theorem off22_val : ∀ i : grid0.Coords, k0_off22 i = ![(ma i - 1) / 10, 0] := by decide +kernel
theorem off23_val (i : grid0.Coords) (k : Fin k0_t2_loop.trips) : k0_off23 i k = ![ma i + k.val] := k0_off23_eq i k
theorem off24_val : ∀ (i : grid0.Coords) (k : Fin k0_t2_loop.trips), k0_off24 i k = ![(ma i + k.val - 1) / 10] := by decide +kernel
theorem off57_val (i : grid0.Coords) : k0_off57 i = ![ma i, 0] := k0_off57_eq i
theorem off27_val : ∀ (i : grid0.Coords) (k : Fin k0_t2_loop.trips),
    k0_off27 i k = ![(ma i + k.val - 1) / 10 - (ma i - 1) / 10, 0] := by decide +kernel
theorem off31_val : ∀ (i : grid0.Coords) (k : Fin k0_t2_loop.trips),
    k0_off31 i k = ![(ma i + k.val - 1) / 10 - (ma i - 1) / 10, 16] := by decide +kernel
theorem off35_val : ∀ (i : grid0.Coords) (k : Fin k0_t2_loop.trips),
    k0_off35 i k = ![(ma i + k.val - 1) / 10 - (ma i - 1) / 10, 32] := by decide +kernel
theorem off39_val : ∀ (i : grid0.Coords) (k : Fin k0_t2_loop.trips),
    k0_off39 i k = ![(ma i + k.val - 1) / 10 - (ma i - 1) / 10, 48] := by decide +kernel
theorem off43_val : ∀ (i : grid0.Coords) (k : Fin k0_t2_loop.trips),
    k0_off43 i k = ![(ma i + k.val - 1) / 10 - (ma i - 1) / 10, 64] := by decide +kernel
theorem off47_val : ∀ (i : grid0.Coords) (k : Fin k0_t2_loop.trips),
    k0_off47 i k = ![(ma i + k.val - 1) / 10 - (ma i - 1) / 10, 80] := by decide +kernel
theorem off51_val : ∀ (i : grid0.Coords) (k : Fin k0_t2_loop.trips),
    k0_off51 i k = ![(ma i + k.val - 1) / 10 - (ma i - 1) / 10, 96] := by decide +kernel
theorem off55_val : ∀ (i : grid0.Coords) (k : Fin k0_t2_loop.trips),
    k0_off55 i k = ![(ma i + k.val - 1) / 10 - (ma i - 1) / 10, 112] := by decide +kernel

/-- The row number the second loop computes, as a word. -/
theorem root_word : ∀ (i : grid0.Coords) (k : Fin k0_t2_loop.trips),
    Scalar.addi (BitVec.ofNat 32 (ma i)) (Scf.iv 0#32 1#32 k) = BitVec.ofNat 32 (ma i + k.val) := by decide +kernel

theorem trips1 (k : Fin k0_t1_loop.trips) : k.val < 29 := lt_of_lt_of_eq k.isLt (by decide)
theorem trips2 (k : Fin k0_t2_loop.trips) : k.val < 4 := lt_of_lt_of_eq k.isLt (by decide)

end Cert.Proof.KernelIdeal
-- ==== Proof.TripKernelIdeal.lean ====
/-
  One trip of each of the kernel's two loops on a tile, with what it stores: trip `k` of the first loop leaves row `k` of the tile's rows
  of 100 and above in the scratch it copies out, and trip `k` of the second loop row `k` of the tile's rows below 100.
-/
module

public import proofs.«01_k».proof.Proof.OffsKernelIdeal
public import proofs.«01_k».proof.Proof.Rows
public import proofs.«01_k».proof.Proof.WriteOut
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.KernelIdeal

open Cert.KernelIdeal Cert.KernelIdeal.Gen Cert.Proof.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and what the proof keeps beside it -/

abbrev ΛP : Labels := Pipeline.Sig Λ₀ (Fin 0) fun p => (pcfgs (F := F) p).Adm
abbrev 𝒱₀ : Variants := Variants.none

/-- The handshakes' rounds, the write mode's cells and the transfers' counters. -/
abbrev UH : Type := URounds (GSem nD τ sig) ℕ
abbrev UU (F : FTy → Type) : Type := UH × (WmRA nD τ sig (Elt F) × Counters)

local notation "𝕄" => MT nD τ sig (HIx 1) (Elt F) ℕ (UU F) ℕ

-- the kernel's operands: the two embeddings, the padded weights, the result, and the tile's scratches
local notation "sV" => (Memref.whole Cert.KernelIdeal.main_arg1_scv : Memref Cert.KernelIdeal.sig Kind.scVector Space.hbm Cert.KernelIdeal.S1001x128 EltTy.f32)
local notation "tV" => (Memref.whole Cert.KernelIdeal.main_arg2_scv : Memref Cert.KernelIdeal.sig Kind.scVector Space.hbm Cert.KernelIdeal.S1001x128 EltTy.f32)
local notation "lV" => (Memref.whole Cert.KernelIdeal.main_v1_scv : Memref Cert.KernelIdeal.sig Kind.scVector Space.hbm Cert.KernelIdeal.S1024 EltTy.f32)
local notation "oV" => (Memref.whole Cert.KernelIdeal.main_v2_scv : Memref Cert.KernelIdeal.sig Kind.scVector Space.hbm Cert.KernelIdeal.S1001x128 EltTy.f32)
local notation "c0V" => (Memref.whole Cert.KernelIdeal.cc0_scratch0 : Memref Cert.KernelIdeal.sig Kind.scVector Space.vmem Cert.KernelIdeal.S1024 EltTy.f32)
local notation "c1V" => (Memref.whole Cert.KernelIdeal.cc0_scratch1 : Memref Cert.KernelIdeal.sig Kind.scVector Space.vmem Cert.KernelIdeal.S29x128 EltTy.f32)
local notation "c2V" => (Memref.whole Cert.KernelIdeal.cc0_scratch2 : Memref Cert.KernelIdeal.sig Kind.scVector Space.vmem Cert.KernelIdeal.S4x128 EltTy.f32)
local notation "c3V" => (Memref.whole Cert.KernelIdeal.cc0_scratch3 : Memref Cert.KernelIdeal.sig Kind.scVector Space.vmem Cert.KernelIdeal.S4x128 EltTy.f32)
local notation "c4V" => (Memref.whole Cert.KernelIdeal.cc0_scratch4 : Memref Cert.KernelIdeal.sig Kind.scVector Space.vmem Cert.KernelIdeal.S29x128 EltTy.f32)
local notation "c5V" => (Memref.whole Cert.KernelIdeal.cc0_scratch5 : Memref Cert.KernelIdeal.sig Kind.scVector Space.vmem Cert.KernelIdeal.S40x128 EltTy.f32)
local notation "c6V" => (Memref.whole Cert.KernelIdeal.cc0_scratch6 : Memref Cert.KernelIdeal.sig Kind.scVector Space.vmem Cert.KernelIdeal.S2x128 EltTy.f32)
local notation "c7V" => (Memref.whole Cert.KernelIdeal.cc0_scratch7 : Memref Cert.KernelIdeal.sig Kind.scVector Space.vmem Cert.KernelIdeal.S2x128 EltTy.f32)
local notation "c8V" => (Memref.whole Cert.KernelIdeal.cc0_scratch8 : Memref Cert.KernelIdeal.sig Kind.scVector Space.vmem Cert.KernelIdeal.S4x128 EltTy.f32)

variable [FloatOps F] [Named F]

section Tile

variable (d : Dev nD) (i : grid0.Coords)

abbrev cV (L : grid0.Coords) : Fin τ.nSC := (L 0).castLE hcore0
abbrev jV (L : grid0.Coords) : Fin τ.nSub := (L 1).castLE hsub0

end Tile

/-! ## What a lane group stores -/

/-- The constant the kernel multiplies a sum of ten rows by. -/
def tenth : F .f32 := Named.named κ "tenth" 0x3DCCCCCD#32

/-- Two mixes in a row: `a` and `b` by `lp`, and the outcome with `c` by `l`. -/
def hiCell (a b c lp l : F .f32) : F .f32 := mix (mix a b lp) c l

/-- The mix of a row below 100: ten summands, the parent's `a` and `b`, the row `r` the root's flag `w` selects, and the two weights. -/
def loCell (a0 a1 a2 a3 a4 a5 a6 a7 a8 a9 a b r w lp l : F .f32) : F .f32 :=
  mix (FloatOps.addf (FloatOps.mulf w r) (FloatOps.mulf (Scalar.subf one w) (mix a b lp)))
    (FloatOps.mulf (FloatOps.addf (FloatOps.addf (FloatOps.addf (FloatOps.addf (FloatOps.addf (FloatOps.addf (FloatOps.addf (FloatOps.addf (FloatOps.addf
      a0 a1) a2) a3) a4) a5) a6) a7) a8) a9) tenth) l

/-- A lane group to sixteen lanes and back. -/
def sc (v : Vec F S1x16 .f32) : Vec F S1x16 .f32 :=
  shapeCast S1x16 (shapeCast S16 v shapeCasts_S1x16_S16) shapeCasts_S16_S1x16

theorem sc_eq (v : Vec F S1x16 .f32) : sc v = v := by
  unfold sc
  rw [shapeCast_shapeCast]

/-- The first lane. -/
def lane0 : S16.Idx := fun | ⟨0, _⟩ => (⟨0, by decide⟩ : Fin 16)

theorem lane_eq (v : Vec F S16 .f32) :
    extractAt ![0] (extractStridedSlice S1 ![0] (shapeCast S16 v shapeCasts_S16_S16) slices_S16_o0_S1) inpos_S1_p0 = v lane0 := by
  rw [shapeCast_self]
  unfold extractAt extractStridedSlice
  congr 1
  funext a
  match a with
  | ⟨0, _⟩ => rfl
theorem pay1_val (v : Vec F S16 .f32) : k0_pay1 v = v lane0 := lane_eq v
theorem pay2_val (v : Vec F S16 .f32) : k0_pay2 v = v lane0 := lane_eq v
theorem pay13_val (v : Vec F S16 .f32) : k0_pay13 v = v lane0 := lane_eq v
theorem pay14_val (v : Vec F S16 .f32) : k0_pay14 v = v lane0 := lane_eq v

theorem hi0_val (a b c : Vec F S1x16 .f32) (u v : Vec F S16 .f32) (x : S1x16.Idx) :
    k0_pay3 u v a b c x = hiCell (a x) (b x) (c x) (v lane0) (u lane0) :=
  Eq.trans (b := hiCell (sc a x) (sc b x) (sc c x) (k0_pay2 v) (k0_pay1 u)) rfl (by simp only [sc_eq, pay1_val, pay2_val])
theorem hi1_val (a b c : Vec F S1x16 .f32) (u v : Vec F S16 .f32) (x : S1x16.Idx) :
    k0_pay6 (k0_pay1 u) (k0_pay2 v) (k0_pay4 v a) (k0_pay5 b) c x = hiCell (a x) (b x) (c x) (v lane0) (u lane0) :=
  Eq.trans (b := hiCell (sc a x) (sc b x) (sc c x) (k0_pay2 v) (k0_pay1 u)) rfl (by simp only [sc_eq, pay1_val, pay2_val])
theorem hi2_val (a b c : Vec F S1x16 .f32) (u v : Vec F S16 .f32) (x : S1x16.Idx) :
    k0_pay7 (k0_pay1 u) (k0_pay2 v) a b c x = hiCell (a x) (b x) (c x) (v lane0) (u lane0) :=
  Eq.trans (b := hiCell (sc a x) (sc b x) (sc c x) (k0_pay2 v) (k0_pay1 u)) rfl (by simp only [sc_eq, pay1_val, pay2_val])
theorem hi3_val (a b c : Vec F S1x16 .f32) (u v : Vec F S16 .f32) (x : S1x16.Idx) :
    k0_pay9 (k0_pay1 u) (k0_pay2 v) (k0_pay8 (k0_pay2 v) a) b c x = hiCell (a x) (b x) (c x) (v lane0) (u lane0) :=
  Eq.trans (b := hiCell (sc a x) (sc b x) (sc c x) (k0_pay2 v) (k0_pay1 u)) rfl (by simp only [sc_eq, pay1_val, pay2_val])
theorem hi4_val (a b c : Vec F S1x16 .f32) (u v : Vec F S16 .f32) (x : S1x16.Idx) :
    k0_pay10 (k0_pay1 u) (k0_pay2 v) a b c x = hiCell (a x) (b x) (c x) (v lane0) (u lane0) :=
  Eq.trans (b := hiCell (sc a x) (sc b x) (sc c x) (k0_pay2 v) (k0_pay1 u)) rfl (by simp only [sc_eq, pay1_val, pay2_val])
theorem hi5_val (a b c : Vec F S1x16 .f32) (u v : Vec F S16 .f32) (x : S1x16.Idx) :
    k0_pay11 (k0_pay1 u) (k0_pay2 v) a b c x = hiCell (a x) (b x) (c x) (v lane0) (u lane0) :=
  Eq.trans (b := hiCell (sc a x) (sc b x) (sc c x) (k0_pay2 v) (k0_pay1 u)) rfl (by simp only [sc_eq, pay1_val, pay2_val])
theorem hi6_val (a b c : Vec F S1x16 .f32) (u v : Vec F S16 .f32) (x : S1x16.Idx) :
    k0_pay48 (k0_pay12 (k0_pay1 u) (k0_pay2 v) a b c) x = hiCell (a x) (b x) (c x) (v lane0) (u lane0) :=
  Eq.trans (b := hiCell (sc a x) (sc b x) (sc c x) (k0_pay2 v) (k0_pay1 u)) rfl (by simp only [sc_eq, pay1_val, pay2_val])
theorem hi7_val (a b c : Vec F S1x16 .f32) (u v : Vec F S16 .f32) (x : S1x16.Idx) :
    k0_pay49 (k0_pay1 u) (k0_pay2 v) a b c x = hiCell (a x) (b x) (c x) (v lane0) (u lane0) :=
  Eq.trans (b := hiCell (sc a x) (sc b x) (sc c x) (k0_pay2 v) (k0_pay1 u)) rfl (by simp only [sc_eq, pay1_val, pay2_val])

theorem lo0_val (a0 a1 a2 a3 a4 a5 a6 a7 a8 a9 a b r : Vec F S1x16 .f32) (u v : Vec F S16 .f32) (w : F .f32) (x : S1x16.Idx) :
    k0_pay19 (k0_pay13 u) (k0_pay14 v) w (k0_pay17 (k0_pay16 a0 a1 a2 a3) a4 a5 a6 a7 a8 a9) (k0_pay18 (k0_pay14 v) a) b r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo1_val (a0 a1 a2 a3 a4 a5 a6 a7 a8 a9 a b r : Vec F S1x16 .f32) (u v : Vec F S16 .f32) (w : F .f32) (x : S1x16.Idx) :
    k0_pay23 (k0_pay13 u) (k0_pay14 v) w (k0_pay21 (k0_pay20 a0 a1 a2) a3 a4 a5 a6 a7 a8) (k0_pay22 a9) a b r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo2_val (a0 a1 a2 a3 a4 a5 a6 a7 a8 a9 a b r : Vec F S1x16 .f32) (u v : Vec F S16 .f32) (w : F .f32) (x : S1x16.Idx) :
    k0_pay26 (k0_pay13 u) (k0_pay14 v) w (k0_pay25 (k0_pay24 a0 a1) a2 a3 a4 a5 a6 a7) a8 a9 a b r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo3_val (a0 a1 a2 a3 a4 a5 a6 a7 a8 a9 a b r : Vec F S1x16 .f32) (u v : Vec F S16 .f32) (w : F .f32) (x : S1x16.Idx) :
    k0_pay30 (k0_pay29 (k0_pay13 u) (k0_pay14 v) w (k0_pay28 (k0_pay27 a0) a1 a2 a3 a4 a5 a6) a7 a8 a9 a b r) x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo4_val (a0 a1 a2 a3 a4 a5 a6 a7 a8 a9 a b r : Vec F S1x16 .f32) (u v : Vec F S16 .f32) (w : F .f32) (x : S1x16.Idx) :
    k0_pay35 (k0_pay13 u) (k0_pay32 (k0_pay31 a0 a1 a2 a3 a4 a5) a6 a7 a8 a9) (k0_pay33 w r) (k0_pay34 (k0_pay14 v) w a b) x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo5_val (a0 a1 a2 a3 a4 a5 a6 a7 a8 a9 a b r : Vec F S1x16 .f32) (u v : Vec F S16 .f32) (w : F .f32) (x : S1x16.Idx) :
    k0_pay39 (k0_pay13 u) w (k0_pay37 (k0_pay36 a0 a1 a2 a3 a4) a5 a6 a7 a8 a9) (k0_pay38 (k0_pay14 v) a b) r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo6_val (a0 a1 a2 a3 a4 a5 a6 a7 a8 a9 a b r : Vec F S1x16 .f32) (u v : Vec F S16 .f32) (w : F .f32) (x : S1x16.Idx) :
    k0_pay43 (k0_pay13 u) (k0_pay14 v) w (k0_pay41 (k0_pay40 a0 a1 a2 a3) a4 a5 a6 a7 a8 a9) (k0_pay42 (k0_pay14 v) a) b r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])
theorem lo7_val (a0 a1 a2 a3 a4 a5 a6 a7 a8 a9 a b r : Vec F S1x16 .f32) (u v : Vec F S16 .f32) (w : F .f32) (x : S1x16.Idx) :
    k0_pay47 (k0_pay13 u) (k0_pay14 v) w (k0_pay45 (k0_pay44 a0 a1 a2) a3 a4 a5 a6 a7 a8) (k0_pay46 a9) a b r x
      = loCell (a0 x) (a1 x) (a2 x) (a3 x) (a4 x) (a5 x) (a6 x) (a7 x) (a8 x) (a9 x) (a x) (b x) (r x) w (v lane0) (u lane0) :=
  Eq.trans (b := loCell (sc a0 x) (sc a1 x) (sc a2 x) (sc a3 x) (sc a4 x) (sc a5 x) (sc a6 x) (sc a7 x) (sc a8 x) (sc a9 x) (sc a x) (sc b x) (sc r x) w
      (k0_pay14 v) (k0_pay13 u)) rfl (by simp only [sc_eq, pay13_val, pay14_val])

theorem hiCell_congr {a b c lp l a' b' c' lp' l' : F .f32} (h1 : a = a') (h2 : b = b') (h3 : c = c') (h4 : lp = lp') (h5 : l = l') :
    hiCell a b c lp l = hiCell a' b' c' lp' l' := by rw [h1, h2, h3, h4, h5]

theorem loCell_congr {a0 a1 a2 a3 a4 a5 a6 a7 a8 a9 a b r w lp l b0 b1 b2 b3 b4 b5 b6 b7 b8 b9 a' b' r' w' lp' l' : F .f32}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (ha : a = a') (hb : b = b') (hr : r = r') (hw : w = w') (hlp : lp = lp') (hl : l = l') :
    loCell a0 a1 a2 a3 a4 a5 a6 a7 a8 a9 a b r w lp l = loCell b0 b1 b2 b3 b4 b5 b6 b7 b8 b9 a' b' r' w' lp' l' := by
  rw [h0, h1, h2, h3, h4, h5, h6, h7, h8, h9, ha, hb, hr, hw, hlp, hl]

/-! ## What a lane group reads, and where one is stored -/

theorem read_row {n : ℕ} {α : Type} {f : (⟨2, ![n, 128]⟩ : Shape).Idx → α} {g : SR.Idx → α} {b : ℕ}
    (hf : ∀ y, f y = g (rc (b + (y 0).val) (y 1))) {off : Fin 2 → ℕ} {inb} {r c R : ℕ} (ho : off = ![r, c]) (hR : b + r = R)
    (x : S1x16.Idx) {cc : Fin 128} (hcc : cc.val = c + (x 1).val) :
    f ((Rect.unit (s := ⟨2, ![n, 128]⟩) off ![1, 16] inb).toLoadRect.idx x) = g (rc R cc) := by
  subst ho hR
  rw [hf]
  have h0 : (((Rect.unit (s := ⟨2, ![n, 128]⟩) ![r, c] ![1, 16] inb).toLoadRect.idx x) 0).val = r := by
    show r + 1 * (x 0).val = r
    have : (x 0).val < 1 := (x 0).isLt
    omega
  have h1 : ((Rect.unit (s := ⟨2, ![n, 128]⟩) ![r, c] ![1, 16] inb).toLoadRect.idx x) 1 = cc := Fin.ext (by
    show c + 1 * (x 1).val = cc.val
    omega)
  rw [h0, h1]

theorem read_lam {α : Type} {f g : S1024.Idx → α} (hf : ∀ y, f y = g y) {off : Fin 1 → ℕ} {inb} {r R : ℕ} (ho : off = ![r]) (hR : r = R) :
    f ((Rect.unit (s := S1024) off ![16] inb).toLoadRect.idx lane0) = g (lx R) := by
  subst ho hR
  rw [hf]
  exact congrArg g (lx_eq (r := r) rfl).symm

theorem mem_row {n : ℕ} {off : Fin 2 → ℕ} {inb} {k c : ℕ} (ho : off = ![k, c]) {y : (⟨2, ![n, 128]⟩ : Shape).Idx} (h0 : (y 0).val = k)
    (h1 : c ≤ (y 1).val ∧ (y 1).val < c + 16) : y ∈ (Rect.unit (s := ⟨2, ![n, 128]⟩) off ![1, 16] inb).set := by
  subst ho
  rw [Rect.mem_set_unit]
  exact Fin.forall_fin_two.mpr ⟨⟨h0.ge, by show _ < k + 1; omega⟩, h1⟩

theorem not_mem_row {n : ℕ} {off : Fin 2 → ℕ} {inb} {k c : ℕ} (ho : off = ![k, c]) {y : (⟨2, ![n, 128]⟩ : Shape).Idx}
    (h0 : (y 0).val ≠ k) : y ∉ (Rect.unit (s := ⟨2, ![n, 128]⟩) off ![1, 16] inb).set := by
  subst ho
  rw [Rect.mem_set_unit]
  intro h
  have h' : k ≤ (y 0).val ∧ (y 0).val < k + 1 := h 0
  omega

theorem emb_row {n : ℕ} {off : Fin 2 → ℕ} {inb} {k c : ℕ} (ho : off = ![k, c]) (x : S1x16.Idx) :
    (((Rect.unit (s := ⟨2, ![n, 128]⟩) off ![1, 16] inb).emb x) 0).val = k
      ∧ (((Rect.unit (s := ⟨2, ![n, 128]⟩) off ![1, 16] inb).emb x) 1).val = c + (x 1).val := by
  subst ho
  refine ⟨?_, ?_⟩
  · show k + 1 * (x 0).val = k
    have : (x 0).val < 1 := (x 0).isLt
    omega
  · show c + 1 * (x 1).val = c + (x 1).val
    omega

/-- Eight lane groups at columns 0, 16, …, 112 hold every column. -/
theorem col_cases (c : Fin 128) : (0 ≤ c.val ∧ c.val < 0 + 16) ∨ (16 ≤ c.val ∧ c.val < 16 + 16) ∨ (32 ≤ c.val ∧ c.val < 32 + 16)
    ∨ (48 ≤ c.val ∧ c.val < 48 + 16) ∨ (64 ≤ c.val ∧ c.val < 64 + 16) ∨ (80 ≤ c.val ∧ c.val < 80 + 16)
    ∨ (96 ≤ c.val ∧ c.val < 96 + 16) ∨ (112 ≤ c.val ∧ c.val < 112 + 16) := by
  have := c.isLt
  omega

section Rows

variable (d : Dev nD) (i : grid0.Coords) (s t : SR.Idx → F .f32) (l : SL.Idx → F .f32)

/-- Row `y 0` of the tile's rows of 100 and above. -/
def RH (y : S29x128.Idx) : F .f32 := hiRow s t l (oa i + (y 0).val) (y 1)

/-- Row `y 0` of the tile's rows below 100. -/
def RL (y : S4x128.Idx) : F .f32 := loRow tenth s t l (ma i + (y 0).val) (y 1)

theorem trip1 (v4 v6 : BitVec 32) (k : Fin k0_t1_loop.trips)
    (f0 : S1024.Idx → Elt F .f32) (f1 f4 : S29x128.Idx → Elt F .f32) (f2 f3 : S4x128.Idx → Elt F .f32)
    (h0 : ∀ y, f0 y = l y) (h1 : ∀ y, f1 y = t (rc (oa i + (y 0).val) (y 1)))
    (h2 : ∀ y, f2 y = s (rc ((oa i - 1) / 10 + (y 0).val) (y 1))) (h3 : ∀ y, f3 y = t (rc ((oa i - 1) / 10 + (y 0).val) (y 1)))
    (h4 : ∀ y, (y 0).val < k.val → f4 y = RH i s t l y) :
    iprop(((c0V).view.loc (V d (cV i) (jV i)) ↦{fullShare} f0) ∗ ((c1V).view.loc (V d (cV i) (jV i)) ↦{fullShare} f1) ∗ ((c2V).view.loc (V d (cV i) (jV i)) ↦{fullShare} f2) ∗ ((c3V).view.loc (V d (cV i) (jV i)) ↦{fullShare} f3) ∗ ((c4V).view.loc (V d (cV i) (jV i)) ↦{fullShare} f4) : sProp 𝕄)
      ⊢ wp frame (wpE (defs₀ (F := F)) 𝒱₀ (V d (cV i) (jV i)) none) Set.univ
          (k0_t1_body i sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8 v4 v6 k ())
          fun _ => iprop(((c0V).view.loc (V d (cV i) (jV i)) ↦{fullShare} f0) ∗ ((c1V).view.loc (V d (cV i) (jV i)) ↦{fullShare} f1) ∗ ((c2V).view.loc (V d (cV i) (jV i)) ↦{fullShare} f2) ∗ ((c3V).view.loc (V d (cV i) (jV i)) ↦{fullShare} f3) ∗ ∃ f4' : S29x128.Idx → Elt F .f32, ⌜∀ y, (y 0).val < k.val + 1 → f4' y = RH i s t l y⌝
            ∗ ((c4V).view.loc (V d (cV i) (jV i)) ↦{fullShare} f4')) := by
  have hk := trips1 k
  have ho := oa_lo i
  unfold k0_t1_body
  rw [k0_part1_eq_skeleton, k0_part2_eq_skeleton, k0_part3_eq_skeleton, k0_part4_eq_skeleton]
  unfold k0_part1_skel k0_part2_skel k0_part3_skel k0_part4_skel
  iintro ⟨H0, H1, H2, H3, H4⟩
  sl_exec
  rw [wp_ret]
  imodintro
  isplitl [H0]
  · iexact H0
  isplitl [H1]
  · iexact H1
  isplitl [H2]
  · iexact H2
  isplitl [H3]
  · iexact H3
  iexists _
  isplitr [H4]
  rotate_left
  · iexact H4
  ipureintro
  intro y hy
  by_cases hyk : (y 0).val = k.val
  · refine (congrFun (View.read_whole (Val := Elt F) cc0_scratch4 _).symm y).trans (View.read_writes_apply_of_pieces (Val := Elt F) (Memref.whole cc0_scratch4 : Memref sig Kind.scVector Space.vmem S29x128 EltTy.f32).view f4
      (RH i s t l) _ ?_ y ?_)
    · intro p hp x
      simp only [List.mem_cons, List.not_mem_nil, _root_.or_false] at hp
      rcases hp with rfl | rfl | rfl | rfl | rfl | rfl | rfl | rfl
      · obtain ⟨e0, e1⟩ := emb_row (inb := k0_off20_inb k) (k0_off20_eq k) x
        refine (hi7_val _ _ _ _ _ x).trans (hiCell_congr (read_row h2 (off19_val i k) ?_ x e1) (read_row h3 (off19_val i k) ?_ x e1)
          (read_row h1 (k0_off20_eq k) ?_ x e1) (read_lam h0 (off4_val i k) ?_) (read_lam h0 (off3_val i k) ?_)) <;> rw [e0] <;> omega
      · obtain ⟨e0, e1⟩ := emb_row (inb := k0_off18_inb k) (k0_off18_eq k) x
        refine (hi6_val _ _ _ _ _ x).trans (hiCell_congr (read_row h2 (off17_val i k) ?_ x e1) (read_row h3 (off17_val i k) ?_ x e1)
          (read_row h1 (k0_off18_eq k) ?_ x e1) (read_lam h0 (off4_val i k) ?_) (read_lam h0 (off3_val i k) ?_)) <;> rw [e0] <;> omega
      · obtain ⟨e0, e1⟩ := emb_row (inb := k0_off16_inb k) (k0_off16_eq k) x
        refine (hi5_val _ _ _ _ _ x).trans (hiCell_congr (read_row h2 (off15_val i k) ?_ x e1) (read_row h3 (off15_val i k) ?_ x e1)
          (read_row h1 (k0_off16_eq k) ?_ x e1) (read_lam h0 (off4_val i k) ?_) (read_lam h0 (off3_val i k) ?_)) <;> rw [e0] <;> omega
      · obtain ⟨e0, e1⟩ := emb_row (inb := k0_off14_inb k) (k0_off14_eq k) x
        refine (hi4_val _ _ _ _ _ x).trans (hiCell_congr (read_row h2 (off13_val i k) ?_ x e1) (read_row h3 (off13_val i k) ?_ x e1)
          (read_row h1 (k0_off14_eq k) ?_ x e1) (read_lam h0 (off4_val i k) ?_) (read_lam h0 (off3_val i k) ?_)) <;> rw [e0] <;> omega
      · obtain ⟨e0, e1⟩ := emb_row (inb := k0_off12_inb k) (k0_off12_eq k) x
        refine (hi3_val _ _ _ _ _ x).trans (hiCell_congr (read_row h2 (off11_val i k) ?_ x e1) (read_row h3 (off11_val i k) ?_ x e1)
          (read_row h1 (k0_off12_eq k) ?_ x e1) (read_lam h0 (off4_val i k) ?_) (read_lam h0 (off3_val i k) ?_)) <;> rw [e0] <;> omega
      · obtain ⟨e0, e1⟩ := emb_row (inb := k0_off10_inb k) (k0_off10_eq k) x
        refine (hi2_val _ _ _ _ _ x).trans (hiCell_congr (read_row h2 (off9_val i k) ?_ x e1) (read_row h3 (off9_val i k) ?_ x e1)
          (read_row h1 (k0_off10_eq k) ?_ x e1) (read_lam h0 (off4_val i k) ?_) (read_lam h0 (off3_val i k) ?_)) <;> rw [e0] <;> omega
      · obtain ⟨e0, e1⟩ := emb_row (inb := k0_off8_inb k) (k0_off8_eq k) x
        refine (hi1_val _ _ _ _ _ x).trans (hiCell_congr (read_row h2 (off7_val i k) ?_ x e1) (read_row h3 (off7_val i k) ?_ x e1)
          (read_row h1 (k0_off8_eq k) ?_ x e1) (read_lam h0 (off4_val i k) ?_) (read_lam h0 (off3_val i k) ?_)) <;> rw [e0] <;> omega
      · obtain ⟨e0, e1⟩ := emb_row (inb := k0_off6_inb k) (k0_off6_eq k) x
        refine (hi0_val _ _ _ _ _ x).trans (hiCell_congr (read_row h2 (off5_val i k) ?_ x e1) (read_row h3 (off5_val i k) ?_ x e1)
          (read_row h1 (k0_off6_eq k) ?_ x e1) (read_lam h0 (off4_val i k) ?_) (read_lam h0 (off3_val i k) ?_)) <;> rw [e0] <;> omega
    · rcases col_cases (y 1) with h | h | h | h | h | h | h | h
      · exact ⟨_, List.Mem.tail _ (List.Mem.tail _ (List.Mem.tail _ (List.Mem.tail _ (List.Mem.tail _ (List.Mem.tail _ (List.Mem.tail _ (List.Mem.head _))))))), mem_row (inb := k0_off6_inb k) (k0_off6_eq k) hyk h⟩
      · exact ⟨_, List.Mem.tail _ (List.Mem.tail _ (List.Mem.tail _ (List.Mem.tail _ (List.Mem.tail _ (List.Mem.tail _ (List.Mem.head _)))))), mem_row (inb := k0_off8_inb k) (k0_off8_eq k) hyk h⟩
      · exact ⟨_, List.Mem.tail _ (List.Mem.tail _ (List.Mem.tail _ (List.Mem.tail _ (List.Mem.tail _ (List.Mem.head _))))), mem_row (inb := k0_off10_inb k) (k0_off10_eq k) hyk h⟩
      · exact ⟨_, List.Mem.tail _ (List.Mem.tail _ (List.Mem.tail _ (List.Mem.tail _ (List.Mem.head _)))), mem_row (inb := k0_off12_inb k) (k0_off12_eq k) hyk h⟩
      · exact ⟨_, List.Mem.tail _ (List.Mem.tail _ (List.Mem.tail _ (List.Mem.head _))), mem_row (inb := k0_off14_inb k) (k0_off14_eq k) hyk h⟩
      · exact ⟨_, List.Mem.tail _ (List.Mem.tail _ (List.Mem.head _)), mem_row (inb := k0_off16_inb k) (k0_off16_eq k) hyk h⟩
      · exact ⟨_, List.Mem.tail _ (List.Mem.head _), mem_row (inb := k0_off18_inb k) (k0_off18_eq k) hyk h⟩
      · exact ⟨_, List.Mem.head _, mem_row (inb := k0_off20_inb k) (k0_off20_eq k) hyk h⟩
  · refine ((congrFun (View.read_whole (Val := Elt F) cc0_scratch4 _).symm y).trans (View.read_writes_apply_of_forall_not_mem (Val := Elt F) (Memref.whole cc0_scratch4 : Memref sig Kind.scVector Space.vmem S29x128 EltTy.f32).view f4
      y _ ?_)).trans (h4 y (by omega))
    intro p hp
    simp only [List.mem_cons, List.not_mem_nil, _root_.or_false] at hp
    rcases hp with rfl | rfl | rfl | rfl | rfl | rfl | rfl | rfl
    · exact not_mem_row (inb := k0_off20_inb k) (k0_off20_eq k) hyk
    · exact not_mem_row (inb := k0_off18_inb k) (k0_off18_eq k) hyk
    · exact not_mem_row (inb := k0_off16_inb k) (k0_off16_eq k) hyk
    · exact not_mem_row (inb := k0_off14_inb k) (k0_off14_eq k) hyk
    · exact not_mem_row (inb := k0_off12_inb k) (k0_off12_eq k) hyk
    · exact not_mem_row (inb := k0_off10_inb k) (k0_off10_eq k) hyk
    · exact not_mem_row (inb := k0_off8_inb k) (k0_off8_eq k) hyk
    · exact not_mem_row (inb := k0_off6_inb k) (k0_off6_eq k) hyk

/-- The root's flag, from the row number the kernel computes. -/
theorem root_val (v11 : BitVec 32) (hv : v11 = BitVec.ofNat 32 (ma i)) (k : Fin k0_t2_loop.trips) :
    (k0_pay15 v11 0#32 1#32 k : F .f32) = root (ma i + k.val) := by
  subst hv
  unfold k0_pay15 root
  have e : Scalar.addi (BitVec.ofNat 32 (ma i)) (Scf.iv 0#32 1#32 k) = BitVec.ofNat 32 (ma i + k.val) := by
    revert k
    exact root_word i
  simp only [e]

theorem trip2 (v1 v11 v15 : BitVec 32) (hv : v11 = BitVec.ofNat 32 (ma i)) (hc : k0_cond1 i = 1#1) (k : Fin k0_t2_loop.trips)
    (f0 : S1024.Idx → Elt F .f32) (f5 : S40x128.Idx → Elt F .f32) (f6 f7 : S2x128.Idx → Elt F .f32) (f8 : S4x128.Idx → Elt F .f32)
    (h0 : ∀ y, f0 y = l y) (h5 : ∀ y, f5 y = t (rc (10 * ma i + 1 + (y 0).val) (y 1)))
    (h6 : ∀ y, f6 y = s (rc ((ma i - 1) / 10 + (y 0).val) (y 1))) (h7 : ∀ y, f7 y = t (rc ((ma i - 1) / 10 + (y 0).val) (y 1)))
    (h8 : ∀ y, (y 0).val < k.val → f8 y = RL i s t l y) :
    iprop(((c0V).view.loc (V d (cV i) (jV i)) ↦{fullShare} f0) ∗ ((c5V).view.loc (V d (cV i) (jV i)) ↦{fullShare} f5) ∗ ((c6V).view.loc (V d (cV i) (jV i)) ↦{fullShare} f6) ∗ ((c7V).view.loc (V d (cV i) (jV i)) ↦{fullShare} f7) ∗ ((c8V).view.loc (V d (cV i) (jV i)) ↦{fullShare} f8) : sProp 𝕄)
      ⊢ wp frame (wpE (defs₀ (F := F)) 𝒱₀ (V d (cV i) (jV i)) none) Set.univ
          (k0_t2_body i sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8 v1 hc v11 v15 k ())
          fun _ => iprop(((c0V).view.loc (V d (cV i) (jV i)) ↦{fullShare} f0) ∗ ((c5V).view.loc (V d (cV i) (jV i)) ↦{fullShare} f5) ∗ ((c6V).view.loc (V d (cV i) (jV i)) ↦{fullShare} f6) ∗ ((c7V).view.loc (V d (cV i) (jV i)) ↦{fullShare} f7) ∗ ∃ f8' : S4x128.Idx → Elt F .f32, ⌜∀ y, (y 0).val < k.val + 1 → f8' y = RL i s t l y⌝
            ∗ ((c8V).view.loc (V d (cV i) (jV i)) ↦{fullShare} f8')) := by
  have hk := trips2 k
  have hm := ma_mod i
  unfold k0_t2_body
  rw [k0_part22_eq_skeleton]
  unfold k0_part22_skel
  rw [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  iintro ⟨H0, H5, H6, H7, H8⟩
  sl_exec
  rw [wp_ret]
  imodintro
  isplitl [H0]
  · iexact H0
  isplitl [H5]
  · iexact H5
  isplitl [H6]
  · iexact H6
  isplitl [H7]
  · iexact H7
  iexists _
  isplitr [H8]
  rotate_left
  · iexact H8
  ipureintro
  intro y hy
  by_cases hyk : (y 0).val = k.val
  · refine (congrFun (View.read_whole (Val := Elt F) cc0_scratch8 _).symm y).trans (View.read_writes_apply_of_pieces (Val := Elt F) (Memref.whole cc0_scratch8 : Memref sig Kind.scVector Space.vmem S4x128 EltTy.f32).view f8
      (RL i s t l) _ ?_ y ?_)
    · intro p hp x
      simp only [List.mem_cons, List.not_mem_nil, _root_.or_false] at hp
      rcases hp with rfl | rfl | rfl | rfl | rfl | rfl | rfl | rfl
      · obtain ⟨e0, e1⟩ := emb_row (inb := k0_off56_inb i k hc) (k0_off56_eq k) x
        refine (lo7_val _ _ _ _ _ _ _ _ _ _ _ _ _ _ _ _ x).trans (loCell_congr (read_row h5 (k0_off53_eq k) ?_ x e1) (read_row h5 (k0_off54_eq k ⟨0, by decide⟩) ?_ x e1) (read_row h5 (k0_off54_eq k ⟨1, by decide⟩) ?_ x e1) (read_row h5 (k0_off54_eq k ⟨2, by decide⟩) ?_ x e1) (read_row h5 (k0_off54_eq k ⟨3, by decide⟩) ?_ x e1) (read_row h5 (k0_off54_eq k ⟨4, by decide⟩) ?_ x e1) (read_row h5 (k0_off54_eq k ⟨5, by decide⟩) ?_ x e1) (read_row h5 (k0_off54_eq k ⟨6, by decide⟩) ?_ x e1) (read_row h5 (k0_off54_eq k ⟨7, by decide⟩) ?_ x e1) (read_row h5 (k0_off54_eq k ⟨8, by decide⟩) ?_ x e1)
          (read_row h6 (off55_val i k) ?_ x e1) (read_row h7 (off55_val i k) ?_ x e1) (read_row h6 (r := 0) (c := 112) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off52_inb i k hc) (k0_off52_eq k) x
        refine (lo6_val _ _ _ _ _ _ _ _ _ _ _ _ _ _ _ _ x).trans (loCell_congr (read_row h5 (k0_off49_eq k) ?_ x e1) (read_row h5 (k0_off50_eq k ⟨0, by decide⟩) ?_ x e1) (read_row h5 (k0_off50_eq k ⟨1, by decide⟩) ?_ x e1) (read_row h5 (k0_off50_eq k ⟨2, by decide⟩) ?_ x e1) (read_row h5 (k0_off50_eq k ⟨3, by decide⟩) ?_ x e1) (read_row h5 (k0_off50_eq k ⟨4, by decide⟩) ?_ x e1) (read_row h5 (k0_off50_eq k ⟨5, by decide⟩) ?_ x e1) (read_row h5 (k0_off50_eq k ⟨6, by decide⟩) ?_ x e1) (read_row h5 (k0_off50_eq k ⟨7, by decide⟩) ?_ x e1) (read_row h5 (k0_off50_eq k ⟨8, by decide⟩) ?_ x e1)
          (read_row h6 (off51_val i k) ?_ x e1) (read_row h7 (off51_val i k) ?_ x e1) (read_row h6 (r := 0) (c := 96) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off48_inb i k hc) (k0_off48_eq k) x
        refine (lo5_val _ _ _ _ _ _ _ _ _ _ _ _ _ _ _ _ x).trans (loCell_congr (read_row h5 (k0_off45_eq k) ?_ x e1) (read_row h5 (k0_off46_eq k ⟨0, by decide⟩) ?_ x e1) (read_row h5 (k0_off46_eq k ⟨1, by decide⟩) ?_ x e1) (read_row h5 (k0_off46_eq k ⟨2, by decide⟩) ?_ x e1) (read_row h5 (k0_off46_eq k ⟨3, by decide⟩) ?_ x e1) (read_row h5 (k0_off46_eq k ⟨4, by decide⟩) ?_ x e1) (read_row h5 (k0_off46_eq k ⟨5, by decide⟩) ?_ x e1) (read_row h5 (k0_off46_eq k ⟨6, by decide⟩) ?_ x e1) (read_row h5 (k0_off46_eq k ⟨7, by decide⟩) ?_ x e1) (read_row h5 (k0_off46_eq k ⟨8, by decide⟩) ?_ x e1)
          (read_row h6 (off47_val i k) ?_ x e1) (read_row h7 (off47_val i k) ?_ x e1) (read_row h6 (r := 0) (c := 80) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off44_inb i k hc) (k0_off44_eq k) x
        refine (lo4_val _ _ _ _ _ _ _ _ _ _ _ _ _ _ _ _ x).trans (loCell_congr (read_row h5 (k0_off41_eq k) ?_ x e1) (read_row h5 (k0_off42_eq k ⟨0, by decide⟩) ?_ x e1) (read_row h5 (k0_off42_eq k ⟨1, by decide⟩) ?_ x e1) (read_row h5 (k0_off42_eq k ⟨2, by decide⟩) ?_ x e1) (read_row h5 (k0_off42_eq k ⟨3, by decide⟩) ?_ x e1) (read_row h5 (k0_off42_eq k ⟨4, by decide⟩) ?_ x e1) (read_row h5 (k0_off42_eq k ⟨5, by decide⟩) ?_ x e1) (read_row h5 (k0_off42_eq k ⟨6, by decide⟩) ?_ x e1) (read_row h5 (k0_off42_eq k ⟨7, by decide⟩) ?_ x e1) (read_row h5 (k0_off42_eq k ⟨8, by decide⟩) ?_ x e1)
          (read_row h6 (off43_val i k) ?_ x e1) (read_row h7 (off43_val i k) ?_ x e1) (read_row h6 (r := 0) (c := 64) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off40_inb i k hc) (k0_off40_eq k) x
        refine (lo3_val _ _ _ _ _ _ _ _ _ _ _ _ _ _ _ _ x).trans (loCell_congr (read_row h5 (k0_off37_eq k) ?_ x e1) (read_row h5 (k0_off38_eq k ⟨0, by decide⟩) ?_ x e1) (read_row h5 (k0_off38_eq k ⟨1, by decide⟩) ?_ x e1) (read_row h5 (k0_off38_eq k ⟨2, by decide⟩) ?_ x e1) (read_row h5 (k0_off38_eq k ⟨3, by decide⟩) ?_ x e1) (read_row h5 (k0_off38_eq k ⟨4, by decide⟩) ?_ x e1) (read_row h5 (k0_off38_eq k ⟨5, by decide⟩) ?_ x e1) (read_row h5 (k0_off38_eq k ⟨6, by decide⟩) ?_ x e1) (read_row h5 (k0_off38_eq k ⟨7, by decide⟩) ?_ x e1) (read_row h5 (k0_off38_eq k ⟨8, by decide⟩) ?_ x e1)
          (read_row h6 (off39_val i k) ?_ x e1) (read_row h7 (off39_val i k) ?_ x e1) (read_row h6 (r := 0) (c := 48) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off36_inb i k hc) (k0_off36_eq k) x
        refine (lo2_val _ _ _ _ _ _ _ _ _ _ _ _ _ _ _ _ x).trans (loCell_congr (read_row h5 (k0_off33_eq k) ?_ x e1) (read_row h5 (k0_off34_eq k ⟨0, by decide⟩) ?_ x e1) (read_row h5 (k0_off34_eq k ⟨1, by decide⟩) ?_ x e1) (read_row h5 (k0_off34_eq k ⟨2, by decide⟩) ?_ x e1) (read_row h5 (k0_off34_eq k ⟨3, by decide⟩) ?_ x e1) (read_row h5 (k0_off34_eq k ⟨4, by decide⟩) ?_ x e1) (read_row h5 (k0_off34_eq k ⟨5, by decide⟩) ?_ x e1) (read_row h5 (k0_off34_eq k ⟨6, by decide⟩) ?_ x e1) (read_row h5 (k0_off34_eq k ⟨7, by decide⟩) ?_ x e1) (read_row h5 (k0_off34_eq k ⟨8, by decide⟩) ?_ x e1)
          (read_row h6 (off35_val i k) ?_ x e1) (read_row h7 (off35_val i k) ?_ x e1) (read_row h6 (r := 0) (c := 32) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off32_inb i k hc) (k0_off32_eq k) x
        refine (lo1_val _ _ _ _ _ _ _ _ _ _ _ _ _ _ _ _ x).trans (loCell_congr (read_row h5 (k0_off29_eq k) ?_ x e1) (read_row h5 (k0_off30_eq k ⟨0, by decide⟩) ?_ x e1) (read_row h5 (k0_off30_eq k ⟨1, by decide⟩) ?_ x e1) (read_row h5 (k0_off30_eq k ⟨2, by decide⟩) ?_ x e1) (read_row h5 (k0_off30_eq k ⟨3, by decide⟩) ?_ x e1) (read_row h5 (k0_off30_eq k ⟨4, by decide⟩) ?_ x e1) (read_row h5 (k0_off30_eq k ⟨5, by decide⟩) ?_ x e1) (read_row h5 (k0_off30_eq k ⟨6, by decide⟩) ?_ x e1) (read_row h5 (k0_off30_eq k ⟨7, by decide⟩) ?_ x e1) (read_row h5 (k0_off30_eq k ⟨8, by decide⟩) ?_ x e1)
          (read_row h6 (off31_val i k) ?_ x e1) (read_row h7 (off31_val i k) ?_ x e1) (read_row h6 (r := 0) (c := 16) rfl ?_ x e1)
          ((root_val i v11 hv k).trans (congrArg root ?_))
          (read_lam h0 (off24_val i k) ?_) (read_lam h0 (off23_val i k) ?_)) <;> rw [e0] <;> first | rfl | omega | (dsimp only; omega)
      · obtain ⟨e0, e1⟩ := emb_row (inb := k0_off28_inb i k hc) (k0_off28_eq k) x
        refine (lo0_val _ _ _ _ _ _ _ _ _ _ _ _ _ _ _ _ x).trans (loCell_congr (read_row h5 (k0_off25_eq k) ?_ x e1) (read_row h5 (k0_off26_eq k ⟨0, by decide⟩) ?_ x e1) (read_row h5 (k0_off26_eq k ⟨1, by decide⟩) ?_ x e1) (read_row h5 (k0_off26_eq k ⟨2, by decide⟩) ?_ x e1) (read_row h5 (k0_off26_eq k ⟨3, by decide⟩) ?_ x e1) (read_row h5 (k0_off26_eq k ⟨4, by decide⟩) ?_ x e1) (read_row h5 (k0_off26_eq k ⟨5, by decide⟩) ?_ x e1) (read_row h5 (k0_off26_eq k ⟨6, by decide⟩) ?_ x e1) (read_row h5 (k0_off26_eq k ⟨7, by decide⟩) ?_ x e1) (read_row h5 (k0_off26_eq k ⟨8, by decide⟩) ?_ x e1)
          (read_row h6 (off27_val i k) ?_ x e1) (read_row h7 (off27_val i k) ?_ x e1) (read_row h6 (r := 0) (c := 0) rfl ?_ x e1)
          ((root_val i v11 hv k).trans (congrArg root ?_))
          (read_lam h0 (off24_val i k) ?_) (read_lam h0 (off23_val i k) ?_)) <;> rw [e0] <;> first | rfl | omega | (dsimp only; omega)
    · rcases col_cases (y 1) with h | h | h | h | h | h | h | h
      · exact ⟨_, List.Mem.tail _ (List.Mem.tail _ (List.Mem.tail _ (List.Mem.tail _ (List.Mem.tail _ (List.Mem.tail _ (List.Mem.tail _ (List.Mem.head _))))))), mem_row (inb := k0_off28_inb i k hc) (k0_off28_eq k) hyk h⟩
      · exact ⟨_, List.Mem.tail _ (List.Mem.tail _ (List.Mem.tail _ (List.Mem.tail _ (List.Mem.tail _ (List.Mem.tail _ (List.Mem.head _)))))), mem_row (inb := k0_off32_inb i k hc) (k0_off32_eq k) hyk h⟩
      · exact ⟨_, List.Mem.tail _ (List.Mem.tail _ (List.Mem.tail _ (List.Mem.tail _ (List.Mem.tail _ (List.Mem.head _))))), mem_row (inb := k0_off36_inb i k hc) (k0_off36_eq k) hyk h⟩
      · exact ⟨_, List.Mem.tail _ (List.Mem.tail _ (List.Mem.tail _ (List.Mem.tail _ (List.Mem.head _)))), mem_row (inb := k0_off40_inb i k hc) (k0_off40_eq k) hyk h⟩
      · exact ⟨_, List.Mem.tail _ (List.Mem.tail _ (List.Mem.tail _ (List.Mem.head _))), mem_row (inb := k0_off44_inb i k hc) (k0_off44_eq k) hyk h⟩
      · exact ⟨_, List.Mem.tail _ (List.Mem.tail _ (List.Mem.head _)), mem_row (inb := k0_off48_inb i k hc) (k0_off48_eq k) hyk h⟩
      · exact ⟨_, List.Mem.tail _ (List.Mem.head _), mem_row (inb := k0_off52_inb i k hc) (k0_off52_eq k) hyk h⟩
      · exact ⟨_, List.Mem.head _, mem_row (inb := k0_off56_inb i k hc) (k0_off56_eq k) hyk h⟩
  · refine ((congrFun (View.read_whole (Val := Elt F) cc0_scratch8 _).symm y).trans (View.read_writes_apply_of_forall_not_mem (Val := Elt F) (Memref.whole cc0_scratch8 : Memref sig Kind.scVector Space.vmem S4x128 EltTy.f32).view f8
      y _ ?_)).trans (h8 y (by omega))
    intro p hp
    simp only [List.mem_cons, List.not_mem_nil, _root_.or_false] at hp
    rcases hp with rfl | rfl | rfl | rfl | rfl | rfl | rfl | rfl
    · exact not_mem_row (inb := k0_off56_inb i k hc) (k0_off56_eq k) hyk
    · exact not_mem_row (inb := k0_off52_inb i k hc) (k0_off52_eq k) hyk
    · exact not_mem_row (inb := k0_off48_inb i k hc) (k0_off48_eq k) hyk
    · exact not_mem_row (inb := k0_off44_inb i k hc) (k0_off44_eq k) hyk
    · exact not_mem_row (inb := k0_off40_inb i k hc) (k0_off40_eq k) hyk
    · exact not_mem_row (inb := k0_off36_inb i k hc) (k0_off36_eq k) hyk
    · exact not_mem_row (inb := k0_off32_inb i k hc) (k0_off32_eq k) hyk
    · exact not_mem_row (inb := k0_off28_inb i k hc) (k0_off28_eq k) hyk

end Rows

end Cert.Proof.KernelIdeal

end
-- ==== Proof.BodyKernelIdeal.lean ====
/-
  The kernel on one tile: the rows it reads copied in, its rows of 100 and above mixed and copied out, and on the first 25 tiles its
  four rows below 100 as well. The result is held in write mode at a share, so that two tiles may write the rows they have in common.
-/
module

public import proofs.«01_k».proof.Proof.TripKernelIdeal
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.KernelIdeal

open Cert.KernelIdeal Cert.KernelIdeal.Gen Cert.Proof.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

-- the kernel's operands: the two embeddings, the padded weights, the result, and the tile's scratches
local notation "sV" => (Memref.whole Cert.KernelIdeal.main_arg1_scv : Memref Cert.KernelIdeal.sig Kind.scVector Space.hbm Cert.KernelIdeal.S1001x128 EltTy.f32)
local notation "tV" => (Memref.whole Cert.KernelIdeal.main_arg2_scv : Memref Cert.KernelIdeal.sig Kind.scVector Space.hbm Cert.KernelIdeal.S1001x128 EltTy.f32)
local notation "lV" => (Memref.whole Cert.KernelIdeal.main_v1_scv : Memref Cert.KernelIdeal.sig Kind.scVector Space.hbm Cert.KernelIdeal.S1024 EltTy.f32)
local notation "oV" => (Memref.whole Cert.KernelIdeal.main_v2_scv : Memref Cert.KernelIdeal.sig Kind.scVector Space.hbm Cert.KernelIdeal.S1001x128 EltTy.f32)
local notation "c0V" => (Memref.whole Cert.KernelIdeal.cc0_scratch0 : Memref Cert.KernelIdeal.sig Kind.scVector Space.vmem Cert.KernelIdeal.S1024 EltTy.f32)
local notation "c1V" => (Memref.whole Cert.KernelIdeal.cc0_scratch1 : Memref Cert.KernelIdeal.sig Kind.scVector Space.vmem Cert.KernelIdeal.S29x128 EltTy.f32)
local notation "c2V" => (Memref.whole Cert.KernelIdeal.cc0_scratch2 : Memref Cert.KernelIdeal.sig Kind.scVector Space.vmem Cert.KernelIdeal.S4x128 EltTy.f32)
local notation "c3V" => (Memref.whole Cert.KernelIdeal.cc0_scratch3 : Memref Cert.KernelIdeal.sig Kind.scVector Space.vmem Cert.KernelIdeal.S4x128 EltTy.f32)
local notation "c4V" => (Memref.whole Cert.KernelIdeal.cc0_scratch4 : Memref Cert.KernelIdeal.sig Kind.scVector Space.vmem Cert.KernelIdeal.S29x128 EltTy.f32)
local notation "c5V" => (Memref.whole Cert.KernelIdeal.cc0_scratch5 : Memref Cert.KernelIdeal.sig Kind.scVector Space.vmem Cert.KernelIdeal.S40x128 EltTy.f32)
local notation "c6V" => (Memref.whole Cert.KernelIdeal.cc0_scratch6 : Memref Cert.KernelIdeal.sig Kind.scVector Space.vmem Cert.KernelIdeal.S2x128 EltTy.f32)
local notation "c7V" => (Memref.whole Cert.KernelIdeal.cc0_scratch7 : Memref Cert.KernelIdeal.sig Kind.scVector Space.vmem Cert.KernelIdeal.S2x128 EltTy.f32)
local notation "c8V" => (Memref.whole Cert.KernelIdeal.cc0_scratch8 : Memref Cert.KernelIdeal.sig Kind.scVector Space.vmem Cert.KernelIdeal.S4x128 EltTy.f32)

variable [FloatOps F] [Named F]

/-- The write mode's place in the algebra. -/
abbrev wmE : UEmb (WmRA nD τ sig (Elt F)) (UU F) := UEmb.inl.trans UEmb.inr

section Tile

variable (d : Dev nD) (i : grid0.Coords) (s t : SR.Idx → F .f32) (l : SL.Idx → F .f32)

/-- The result's value as the write mode's target. -/
abbrev tgt : Tgt (Elt F) ((V d (cV i) (jV i)).loc main_v2_scv) := fun y => some (G tenth s t l y)

/-- The place a slice of rows from `o` on holds at `y`. -/
theorem emb_rc {n : ℕ} {off : Fin 2 → ℕ} {inb} {o : ℕ} (ho : off = ![o, 0]) (y : (⟨2, ![n, 128]⟩ : Shape).Idx) :
    (Rect.unit (s := S1001x128) off ![n, 128] inb).emb y = rc (o + (y 0).val) (y 1) := by
  subst ho
  refine (rc_eq ?_ ?_).symm
  · show o + 1 * (y 0).val = o + (y 0).val
    omega
  · show 0 + 1 * (y 1).val = (y 1).val
    omega

/-- The rows from `o` on, as a set of places. -/
theorem mem_rows {n : ℕ} {off : Fin 2 → ℕ} {inb} {o : ℕ} (ho : off = ![o, 0]) (y : S1001x128.Idx) :
    y ∈ (Rect.unit (s := S1001x128) off ![n, 128] inb).set ↔ o ≤ (y 0).val ∧ (y 0).val < o + n := by
  subst ho
  rw [Rect.mem_set_unit]
  refine ⟨fun h => h 0, fun h => Fin.forall_fin_two.mpr ⟨h, Nat.zero_le _, ?_⟩⟩
  have h1 : (y 1).val < 128 := (y 1).isLt
  show (y 1).val < 0 + 128
  omega

/-- The rows of 100 and above that the tile writes. -/
abbrev hiM : Memref sig .scVector .hbm S29x128 .f32 := (oV).slice (Rect.unit (s := S1001x128) (k0_off1 i) S29x128.size (k0_off1_inb i)) (fun _ => rfl)

/-- The rows below 100 that the tile writes, when it writes any. -/
abbrev loM (hc : k0_cond1 i = 1#1) : Memref sig .scVector .hbm S4x128 .f32 :=
  (oV).slice (Rect.unit (s := S1001x128) (k0_off57 i) S4x128.size (k0_off57_inb i hc)) (fun _ => rfl)

theorem admitted_hi (f : S29x128.Idx → Elt F .f32) (hf : ∀ y, f y = RH i s t l y) :
    (hiM i).view.Admitted (Elt F) (tgt d i s t l) ((c4V).view.read (Elt F) f) Finset.univ := by
  refine (View.admitted_some_iff).mpr fun y _ => ?_
  refine (hf y).trans ?_
  show RH i s t l y = G tenth s t l ((Rect.unit (s := S1001x128) (k0_off1 i) S29x128.size (k0_off1_inb i)).emb y)
  rw [emb_rc (n := 29) (off1_val i) y]
  have := oa_lo i
  have := oa_hi i
  have hy : (y 0).val < 29 := (y 0).isLt
  have e : ((rc (oa i + (y 0).val) (y 1)) 0).val = oa i + (y 0).val := Nat.mod_eq_of_lt (by omega)
  unfold G
  rw [e, if_neg (by omega)]
  rfl

theorem admitted_lo (hc : k0_cond1 i = 1#1) (f : S4x128.Idx → Elt F .f32) (hf : ∀ y, f y = RL i s t l y) :
    (loM i hc).view.Admitted (Elt F) (tgt d i s t l) ((c8V).view.read (Elt F) f) Finset.univ := by
  refine (View.admitted_some_iff).mpr fun y _ => ?_
  refine (hf y).trans ?_
  show RL i s t l y = G tenth s t l ((Rect.unit (s := S1001x128) (k0_off57 i) S4x128.size (k0_off57_inb i hc)).emb y)
  rw [emb_rc (n := 4) (off57_val i) y]
  have := cond_ma i hc
  have := ma_mod i
  have hy : (y 0).val < 4 := (y 0).isLt
  have e : ((rc (ma i + (y 0).val) (y 1)) 0).val = ma i + (y 0).val := Nat.mod_eq_of_lt (by omega)
  unfold G
  rw [e, if_pos (by omega)]
  rfl

/-- The first loop's invariant: the tile's first `k` rows are in the scratch. -/
def inv1 (k : ℕ) (_ : Unit) (f0 : S1024.Idx → Elt F .f32) (f1 : S29x128.Idx → Elt F .f32) (f2 f3 : S4x128.Idx → Elt F .f32) : sProp 𝕄 :=
  iprop(((c0V).view.loc (V d (cV i) (jV i)) ↦{fullShare} f0) ∗ ((c1V).view.loc (V d (cV i) (jV i)) ↦{fullShare} f1) ∗ ((c2V).view.loc (V d (cV i) (jV i)) ↦{fullShare} f2) ∗ ((c3V).view.loc (V d (cV i) (jV i)) ↦{fullShare} f3) ∗ ∃ f4 : S29x128.Idx → Elt F .f32, ⌜∀ y, (y 0).val < k → f4 y = RH i s t l y⌝ ∗ ((c4V).view.loc (V d (cV i) (jV i)) ↦{fullShare} f4))

/-- The second loop's. -/
def inv2 (k : ℕ) (_ : Unit) (f0 : S1024.Idx → Elt F .f32) (f5 : S40x128.Idx → Elt F .f32) (f6 f7 : S2x128.Idx → Elt F .f32) : sProp 𝕄 :=
  iprop(((c0V).view.loc (V d (cV i) (jV i)) ↦{fullShare} f0) ∗ ((c5V).view.loc (V d (cV i) (jV i)) ↦{fullShare} f5) ∗ ((c6V).view.loc (V d (cV i) (jV i)) ↦{fullShare} f6) ∗ ((c7V).view.loc (V d (cV i) (jV i)) ↦{fullShare} f7) ∗ ∃ f8 : S4x128.Idx → Elt F .f32, ⌜∀ y, (y 0).val < k → f8 y = RL i s t l y⌝ ∗ ((c8V).view.loc (V d (cV i) (jV i)) ↦{fullShare} f8))

/-- The tile's number as the kernel computes it. -/
def wv : BitVec 32 := Scalar.addi (Scalar.muli (BitVec.ofNat 32 (i 1).val) 2#32) (BitVec.ofNat 32 (i 0).val)

/-- The first half of a tile: the weights and the rows it reads brought in, the 29 rows mixed, and their copy out started. -/
theorem hi_run (O : CellTallies nD τ sig (HIx 1)) (W : Waits sig (HIx 1)) (qs qo : PosShare TreeShare) (ιwm : ℕ)
    (fo : S1001x128.Idx → Elt F .f32) (W₀ : Finset S1001x128.Idx) :
    iprop(Transfers.MayWaits (V d (cV i) (jV i)) (default : HIx 1) O ∗ wmInv wmE ιwm
        ∗ ((sV).view.loc (V d (cV i) (jV i)) ↦{qs} s) ∗ ((tV).view.loc (V d (cV i) (jV i)) ↦{qs} t) ∗ ((lV).view.loc (V d (cV i) (jV i)) ↦{qs} l)
        ∗ willBeTo wmE ((oV).view.loc (V d (cV i) (jV i))) Finset.univ qo fo (tgt d i s t l) W₀
        ∗ (∃ f, ((c0V).view.loc (V d (cV i) (jV i)) ↦{fullShare} f)) ∗ (∃ f, ((c1V).view.loc (V d (cV i) (jV i)) ↦{fullShare} f)) ∗ (∃ f, ((c2V).view.loc (V d (cV i) (jV i)) ↦{fullShare} f)) ∗ (∃ f, ((c3V).view.loc (V d (cV i) (jV i)) ↦{fullShare} f)) ∗ (∃ f, ((c4V).view.loc (V d (cV i) (jV i)) ↦{fullShare} f))
        ∗ semVal (V d (cV i) (jV i), .dma cc0_scoped0.sem) 0 ∗ semVal (V d (cV i) (jV i), .dma cc0_scoped1.sem) 0 ∗ semVal (V d (cV i) (jV i), .dma cc0_scoped2.sem) 0
        ∗ semVal (V d (cV i) (jV i), .dma cc0_scoped3.sem) 0 ∗ semVal (V d (cV i) (jV i), .dma cc0_scoped4.sem) 0
        ∗ owes (V d (cV i) (jV i)) O W : sProp 𝕄)
      ⊢ wp frame (wpE (defs₀ (F := F)) 𝒱₀ (V d (cV i) (jV i)) none) Set.univ
          (k0_part24 i sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8)
          fun v => iprop(⌜v = wv i⌝ ∗ ((sV).view.loc (V d (cV i) (jV i)) ↦{qs} s) ∗ ((tV).view.loc (V d (cV i) (jV i)) ↦{qs} t) ∗ ((lV).view.loc (V d (cV i) (jV i)) ↦{qs} l)
            ∗ (∃ f : S1024.Idx → Elt F .f32, ⌜∀ y, f y = l y⌝ ∗ ((c0V).view.loc (V d (cV i) (jV i)) ↦{fullShare} f)) ∗ (∃ f, ((c1V).view.loc (V d (cV i) (jV i)) ↦{fullShare} f)) ∗ (∃ f, ((c2V).view.loc (V d (cV i) (jV i)) ↦{fullShare} f)) ∗ (∃ f, ((c3V).view.loc (V d (cV i) (jV i)) ↦{fullShare} f))
            ∗ semVal ((V d (cV i) (jV i)), .dma cc0_scoped0.sem) 0 ∗ semVal ((V d (cV i) (jV i)), .dma cc0_scoped1.sem) 0 ∗ semVal ((V d (cV i) (jV i)), .dma cc0_scoped2.sem) 0 ∗ semVal ((V d (cV i) (jV i)), .dma cc0_scoped3.sem) 0
            ∗ (∃ f, Transfers.Flight countersEmb (V d (cV i) (jV i)) (.dma cc0_scoped4.sem) (default : HIx 1) ((hiM i).view.amount (.dma cc0_scoped4.sem))
                iprop(willBeTo wmE ((hiM i).view.loc (V d (cV i) (jV i))) Finset.univ qo fo (tgt d i s t l) (W₀ ∪ (hiM i).view.set) ∗ ((c4V).view.loc (V d (cV i) (jV i)) ↦{fullShare} f)))
            ∗ ∃ W', owes (V d (cV i) (jV i)) O W') := by
  rw [k0_part24_eq_skeleton]
  unfold k0_part24_skel
  iintro ⟨#Hmw, #Hwm, Hs, Ht, Hl, Ho, ⟨%f0, H0⟩, ⟨%f1, H1⟩, ⟨%f2, H2⟩, ⟨%f3, H3⟩, ⟨%f4, H4⟩, Hm0, Hm1, Hm2, Hm3, Hm4, HO⟩
  sl_exec (disch := exact View.amount_pos _ _ (show 0 < S29x128.numel by decide))
  generalize h0 : View.write (Elt F) (Memref.whole cc0_scratch0).view f0 _ Finset.univ = g0
  generalize h1 : View.write (Elt F) (Memref.whole cc0_scratch1).view f1 _ Finset.univ = g1
  generalize h2 : View.write (Elt F) (Memref.whole cc0_scratch2).view f2 _ Finset.univ = g2
  generalize h3 : View.write (Elt F) (Memref.whole cc0_scratch3).view f3 _ Finset.univ = g3
  have e0 : ∀ y, g0 y = l y := fun y => by
    rw [← h0]
    exact (View.write_emb (v := (Memref.whole cc0_scratch0).view) f0 _ Finset.univ y).trans (if_pos (Finset.mem_univ _))
  have e1 : ∀ y, g1 y = t (rc (oa i + (y 0).val) (y 1)) := fun y => by
    rw [← h1]
    exact (View.write_emb (v := (Memref.whole cc0_scratch1).view) f1 _ Finset.univ y).trans ((if_pos (Finset.mem_univ _)).trans (congrArg t (emb_rc (n := 29) (off1_val i) y)))
  have e2 : ∀ y, g2 y = s (rc ((oa i - 1) / 10 + (y 0).val) (y 1)) := fun y => by
    rw [← h2]
    exact (View.write_emb (v := (Memref.whole cc0_scratch2).view) f2 _ Finset.univ y).trans ((if_pos (Finset.mem_univ _)).trans (congrArg s (emb_rc (n := 4) (off2_val i) y)))
  have e3 : ∀ y, g3 y = t (rc ((oa i - 1) / 10 + (y 0).val) (y 1)) := fun y => by
    rw [← h3]
    exact (View.write_emb (v := (Memref.whole cc0_scratch3).view) f3 _ Finset.univ y).trans ((if_pos (Finset.mem_univ _)).trans (congrArg t (emb_rc (n := 4) (off2_val i) y)))
  sl_for (fun k u => inv1 d i s t l k u g0 g1 g2 g3) $$ [H0 H1 H2 H3 H4]
  case region =>
    intro k _
    unfold inv1
    iintro ⟨H0, H1, H2, H3, %f4, %h4, H4⟩
    iapply (trip1 d i s t l _ _ k g0 g1 f4 g2 g3 e0 e1 e2 e3 h4)
    isplitl [H0]; · iexact H0
    isplitl [H1]; · iexact H1
    isplitl [H2]; · iexact H2
    isplitl [H3]; · iexact H3
    iexact H4
  · unfold inv1
    isplitl [H0]; · iexact H0
    isplitl [H1]; · iexact H1
    isplitl [H2]; · iexact H2
    isplitl [H3]; · iexact H3
    iexists f4
    isplitr
    · ipureintro
      intro y hy
      exact absurd hy (Nat.not_lt_zero _)
    iexact H4
  unfold inv1
  iintro %_ ⟨H0, H1, H2, H3, %g4, %h4, H4⟩
  have e4 : ∀ y, g4 y = RH i s t l y := fun y => h4 y (lt_of_lt_of_eq (y 0).isLt (show 29 = k0_t1_loop.trips by decide))
  sl_exec
  iapply (WriteOut.wp_copyOut 𝒱₀ (V d (cV i) (jV i)) none countersEmb (emb := wmE) (default : HIx 1) ((hiM i).view.amount (.dma cc0_scoped4.sem)) rfl
    (View.amount_pos _ _ (show 0 < S29x128.numel by decide)) (View.set_whole _) (Finset.subset_univ _) (admitted_hi d i s t l g4 e4)) $$ [Ho H4 Hm4]
  · isplitr; · iexact Hwm
    isplitl [H4]; · iexact H4
    isplitl [Ho]; · iexact Ho
    iexact Hm4
  iintro HF
  rw [wp_pure]
  imodintro
  isplitr; · ipureintro; rfl
  isplitl [Hs]; · iexact Hs
  isplitl [Ht]; · iexact Ht
  isplitl [Hl]; · iexact Hl
  isplitl [H0]
  · iexists g0
    isplitr; · ipureintro; exact e0
    iexact H0
  isplitl [H1]; · iexists g1; iexact H1
  isplitl [H2]; · iexists g2; iexact H2
  isplitl [H3]; · iexists g3; iexact H3
  isplitl [Hm0]; · iexact Hm0
  isplitl [Hm1]; · iexact Hm1
  isplitl [Hm2]; · iexact Hm2
  isplitl [Hm3]; · iexact Hm3
  isplitl [HF]; · iexists g4; iexact HF
  iexists _
  iexact HO

theorem lo_word : ∀ i : grid0.Coords, Scalar.muli 4#32 (wv i) = BitVec.ofNat 32 (ma i) := by decide +kernel

/-- The second half of a tile below the 25th: the rows it reads brought in, its four rows mixed, and their copy out started. -/
theorem lo_run (hc : k0_cond1 i = 1#1) (O : CellTallies nD τ sig (HIx 1)) (W : Waits sig (HIx 1)) (qs qo : PosShare TreeShare) (ιwm : ℕ)
    (fo : S1001x128.Idx → Elt F .f32) (W₀ : Finset S1001x128.Idx) (f0 : S1024.Idx → Elt F .f32) (e0 : ∀ y, f0 y = l y) :
    iprop(Transfers.MayWaits (V d (cV i) (jV i)) (default : HIx 1) O ∗ wmInv wmE ιwm
        ∗ ((sV).view.loc (V d (cV i) (jV i)) ↦{qs} s) ∗ ((tV).view.loc (V d (cV i) (jV i)) ↦{qs} t)
        ∗ willBeTo wmE ((oV).view.loc (V d (cV i) (jV i))) Finset.univ qo fo (tgt d i s t l) W₀
        ∗ ((c0V).view.loc (V d (cV i) (jV i)) ↦{fullShare} f0) ∗ (∃ f, ((c5V).view.loc (V d (cV i) (jV i)) ↦{fullShare} f)) ∗ (∃ f, ((c6V).view.loc (V d (cV i) (jV i)) ↦{fullShare} f)) ∗ (∃ f, ((c7V).view.loc (V d (cV i) (jV i)) ↦{fullShare} f)) ∗ (∃ f, ((c8V).view.loc (V d (cV i) (jV i)) ↦{fullShare} f))
        ∗ semVal (V d (cV i) (jV i), .dma cc0_scoped5.sem) 0 ∗ semVal (V d (cV i) (jV i), .dma cc0_scoped6.sem) 0 ∗ semVal (V d (cV i) (jV i), .dma cc0_scoped7.sem) 0 ∗ semVal (V d (cV i) (jV i), .dma cc0_scoped8.sem) 0
        ∗ owes (V d (cV i) (jV i)) O W : sProp 𝕄)
      ⊢ wp frame (wpE (defs₀ (F := F)) 𝒱₀ (V d (cV i) (jV i)) none) Set.univ
          (k0_part23 i sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8 (wv i) hc)
          fun _ => iprop(((sV).view.loc (V d (cV i) (jV i)) ↦{qs} s) ∗ ((tV).view.loc (V d (cV i) (jV i)) ↦{qs} t)
            ∗ ((c0V).view.loc (V d (cV i) (jV i)) ↦{fullShare} f0) ∗ (∃ f, ((c5V).view.loc (V d (cV i) (jV i)) ↦{fullShare} f)) ∗ (∃ f, ((c6V).view.loc (V d (cV i) (jV i)) ↦{fullShare} f)) ∗ (∃ f, ((c7V).view.loc (V d (cV i) (jV i)) ↦{fullShare} f)) ∗ semVal (V d (cV i) (jV i), .dma cc0_scoped5.sem) 0 ∗ semVal (V d (cV i) (jV i), .dma cc0_scoped6.sem) 0 ∗ semVal (V d (cV i) (jV i), .dma cc0_scoped7.sem) 0
            ∗ (∃ f, Transfers.Flight countersEmb (V d (cV i) (jV i)) (.dma cc0_scoped8.sem) (default : HIx 1) ((loM i hc).view.amount (.dma cc0_scoped8.sem))
                iprop(willBeTo wmE ((loM i hc).view.loc (V d (cV i) (jV i))) Finset.univ qo fo (tgt d i s t l) (W₀ ∪ (loM i hc).view.set) ∗ ((c8V).view.loc (V d (cV i) (jV i)) ↦{fullShare} f)))
            ∗ ∃ W', owes (V d (cV i) (jV i)) O W') := by
  rw [k0_part23_eq_skeleton]
  unfold k0_part23_skel
  iintro ⟨#Hmw, #Hwm, Hs, Ht, Ho, H0, ⟨%f5, H5⟩, ⟨%f6, H6⟩, ⟨%f7, H7⟩, ⟨%f8, H8⟩, Hm5, Hm6, Hm7, Hm8, HO⟩
  sl_exec (disch := exact View.amount_pos _ _ (show 0 < S4x128.numel by decide))
  generalize h5 : View.write (Elt F) (Memref.whole cc0_scratch5).view f5 _ Finset.univ = g5
  generalize h6 : View.write (Elt F) (Memref.whole cc0_scratch6).view f6 _ Finset.univ = g6
  generalize h7 : View.write (Elt F) (Memref.whole cc0_scratch7).view f7 _ Finset.univ = g7
  have e5 : ∀ y, g5 y = t (rc (10 * ma i + 1 + (y 0).val) (y 1)) := fun y => by
    rw [← h5]
    exact (View.write_emb (v := (Memref.whole cc0_scratch5).view) f5 _ Finset.univ y).trans ((if_pos (Finset.mem_univ _)).trans (congrArg t (emb_rc (n := 40) (off21_val i) y)))
  have e6 : ∀ y, g6 y = s (rc ((ma i - 1) / 10 + (y 0).val) (y 1)) := fun y => by
    rw [← h6]
    exact (View.write_emb (v := (Memref.whole cc0_scratch6).view) f6 _ Finset.univ y).trans ((if_pos (Finset.mem_univ _)).trans (congrArg s (emb_rc (n := 2) (off22_val i) y)))
  have e7 : ∀ y, g7 y = t (rc ((ma i - 1) / 10 + (y 0).val) (y 1)) := fun y => by
    rw [← h7]
    exact (View.write_emb (v := (Memref.whole cc0_scratch7).view) f7 _ Finset.univ y).trans ((if_pos (Finset.mem_univ _)).trans (congrArg t (emb_rc (n := 2) (off22_val i) y)))
  sl_for (fun k u => inv2 d i s t l k u f0 g5 g6 g7) $$ [H0 H5 H6 H7 H8]
  case region =>
    intro k _
    unfold inv2
    iintro ⟨H0, H5, H6, H7, %f8, %h8, H8⟩
    iapply (trip2 d i s t l _ _ _ (lo_word i) hc k f0 g5 g6 g7 f8 e0 e5 e6 e7 h8)
    isplitl [H0]; · iexact H0
    isplitl [H5]; · iexact H5
    isplitl [H6]; · iexact H6
    isplitl [H7]; · iexact H7
    iexact H8
  · unfold inv2
    isplitl [H0]; · iexact H0
    isplitl [H5]; · iexact H5
    isplitl [H6]; · iexact H6
    isplitl [H7]; · iexact H7
    iexists f8
    isplitr
    · ipureintro
      intro y hy
      exact absurd hy (Nat.not_lt_zero _)
    iexact H8
  unfold inv2
  iintro %_ ⟨H0, H5, H6, H7, %g8, %h8, H8⟩
  have e8 : ∀ y, g8 y = RL i s t l y := fun y => h8 y (lt_of_lt_of_eq (y 0).isLt (show 4 = k0_t2_loop.trips by decide))
  sl_exec
  iapply (WriteOut.wp_copyOut 𝒱₀ (V d (cV i) (jV i)) none countersEmb (emb := wmE) (default : HIx 1) ((loM i hc).view.amount (.dma cc0_scoped8.sem)) rfl
    (View.amount_pos _ _ (show 0 < S4x128.numel by decide)) (View.set_whole _) (Finset.subset_univ _) (admitted_lo d i s t l hc g8 e8)) $$ [Ho H8 Hm8]
  · isplitr; · iexact Hwm
    isplitl [H8]; · iexact H8
    isplitl [Ho]; · iexact Ho
    iexact Hm8
  iintro HF
  rw [wp_pure]
  imodintro
  isplitl [Hs]; · iexact Hs
  isplitl [Ht]; · iexact Ht
  isplitl [H0]; · iexact H0
  isplitl [H5]; · iexists g5; iexact H5
  isplitl [H6]; · iexists g6; iexact H6
  isplitl [H7]; · iexists g7; iexact H7
  isplitl [Hm5]; · iexact Hm5
  isplitl [Hm6]; · iexact Hm6
  isplitl [Hm7]; · iexact Hm7
  isplitl [HF]; · iexists g8; iexact HF
  iexists _
  iexact HO

/-- The places the tile writes. -/
def marks : Finset S1001x128.Idx :=
  Finset.univ.filter fun y => (oa i ≤ (y 0).val ∧ (y 0).val < oa i + 29) ∨ (ma i < 100 ∧ ma i ≤ (y 0).val ∧ (y 0).val < ma i + 4)

theorem marks_no (hc : ¬ k0_cond1 i = 1#1) : ∅ ∪ (hiM i).view.set = marks i := by
  ext y
  have hs : (hiM i).view.set = (Rect.unit (s := S1001x128) (k0_off1 i) S29x128.size (k0_off1_inb i)).set := View.set_slice_whole _ _
  rw [Finset.empty_union, hs, mem_rows (n := 29) (off1_val i)]
  have h : ¬ ma i < 100 := fun h => hc (ma_cond i h)
  simp [marks, h]

theorem marks_yes (hc : k0_cond1 i = 1#1) : (∅ ∪ (hiM i).view.set) ∪ (loM i hc).view.set = marks i := by
  ext y
  have hs : (hiM i).view.set = (Rect.unit (s := S1001x128) (k0_off1 i) S29x128.size (k0_off1_inb i)).set := View.set_slice_whole _ _
  have hs' : (loM i hc).view.set = (Rect.unit (s := S1001x128) (k0_off57 i) S4x128.size (k0_off57_inb i hc)).set := View.set_slice_whole _ _
  rw [Finset.empty_union, Finset.mem_union, hs, hs', mem_rows (n := 29) (off1_val i), mem_rows (n := 4) (off57_val i)]
  have h := cond_ma i hc
  simp [marks, h]

set_option maxHeartbeats 2000000 in
/-- A whole tile, its scratches and semaphores held one by one. -/
theorem tile_run (O : CellTallies nD τ sig (HIx 1)) (W : Waits sig (HIx 1)) (qs qo : PosShare TreeShare) (ιwm : ℕ)
    (fo : S1001x128.Idx → Elt F .f32) :
    iprop(Transfers.MayWaits (V d (cV i) (jV i)) (default : HIx 1) O ∗ wmInv wmE ιwm
        ∗ ((sV).view.loc (V d (cV i) (jV i)) ↦{qs} s) ∗ ((tV).view.loc (V d (cV i) (jV i)) ↦{qs} t) ∗ ((lV).view.loc (V d (cV i) (jV i)) ↦{qs} l)
        ∗ willBeTo wmE ((oV).view.loc (V d (cV i) (jV i))) Finset.univ qo fo (tgt d i s t l) ∅
        ∗ (∃ f, ((c0V).view.loc (V d (cV i) (jV i)) ↦{fullShare} f)) ∗ (∃ f, ((c1V).view.loc (V d (cV i) (jV i)) ↦{fullShare} f)) ∗ (∃ f, ((c2V).view.loc (V d (cV i) (jV i)) ↦{fullShare} f)) ∗ (∃ f, ((c3V).view.loc (V d (cV i) (jV i)) ↦{fullShare} f)) ∗ (∃ f, ((c4V).view.loc (V d (cV i) (jV i)) ↦{fullShare} f)) ∗ (∃ f, ((c5V).view.loc (V d (cV i) (jV i)) ↦{fullShare} f)) ∗ (∃ f, ((c6V).view.loc (V d (cV i) (jV i)) ↦{fullShare} f)) ∗ (∃ f, ((c7V).view.loc (V d (cV i) (jV i)) ↦{fullShare} f)) ∗ (∃ f, ((c8V).view.loc (V d (cV i) (jV i)) ↦{fullShare} f))
        ∗ semVal (V d (cV i) (jV i), .dma cc0_scoped0.sem) 0 ∗ semVal (V d (cV i) (jV i), .dma cc0_scoped1.sem) 0 ∗ semVal (V d (cV i) (jV i), .dma cc0_scoped2.sem) 0 ∗ semVal (V d (cV i) (jV i), .dma cc0_scoped3.sem) 0 ∗ semVal (V d (cV i) (jV i), .dma cc0_scoped4.sem) 0 ∗ semVal (V d (cV i) (jV i), .dma cc0_scoped5.sem) 0 ∗ semVal (V d (cV i) (jV i), .dma cc0_scoped6.sem) 0 ∗ semVal (V d (cV i) (jV i), .dma cc0_scoped7.sem) 0 ∗ semVal (V d (cV i) (jV i), .dma cc0_scoped8.sem) 0
        ∗ owes (V d (cV i) (jV i)) O W : sProp 𝕄)
      ⊢ wp frame (wpE (defs₀ (F := F)) 𝒱₀ (V d (cV i) (jV i)) none) Set.univ
          (cc0__sc_embed i sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8)
          fun _ => iprop(((sV).view.loc (V d (cV i) (jV i)) ↦{qs} s) ∗ ((tV).view.loc (V d (cV i) (jV i)) ↦{qs} t) ∗ ((lV).view.loc (V d (cV i) (jV i)) ↦{qs} l)
            ∗ willBeTo wmE ((oV).view.loc (V d (cV i) (jV i))) Finset.univ qo fo (tgt d i s t l) (marks i)
            ∗ (∃ f, ((c0V).view.loc (V d (cV i) (jV i)) ↦{fullShare} f)) ∗ (∃ f, ((c1V).view.loc (V d (cV i) (jV i)) ↦{fullShare} f)) ∗ (∃ f, ((c2V).view.loc (V d (cV i) (jV i)) ↦{fullShare} f)) ∗ (∃ f, ((c3V).view.loc (V d (cV i) (jV i)) ↦{fullShare} f)) ∗ (∃ f, ((c4V).view.loc (V d (cV i) (jV i)) ↦{fullShare} f)) ∗ (∃ f, ((c5V).view.loc (V d (cV i) (jV i)) ↦{fullShare} f)) ∗ (∃ f, ((c6V).view.loc (V d (cV i) (jV i)) ↦{fullShare} f)) ∗ (∃ f, ((c7V).view.loc (V d (cV i) (jV i)) ↦{fullShare} f)) ∗ (∃ f, ((c8V).view.loc (V d (cV i) (jV i)) ↦{fullShare} f))
            ∗ semVal (V d (cV i) (jV i), .dma cc0_scoped0.sem) 0 ∗ semVal (V d (cV i) (jV i), .dma cc0_scoped1.sem) 0 ∗ semVal (V d (cV i) (jV i), .dma cc0_scoped2.sem) 0 ∗ semVal (V d (cV i) (jV i), .dma cc0_scoped3.sem) 0 ∗ semVal (V d (cV i) (jV i), .dma cc0_scoped4.sem) 0 ∗ semVal (V d (cV i) (jV i), .dma cc0_scoped5.sem) 0 ∗ semVal (V d (cV i) (jV i), .dma cc0_scoped6.sem) 0 ∗ semVal (V d (cV i) (jV i), .dma cc0_scoped7.sem) 0 ∗ semVal (V d (cV i) (jV i), .dma cc0_scoped8.sem) 0
            ∗ ∃ W', owes (V d (cV i) (jV i)) O W') := by
  rw [cc0__sc_embed_eq_skeleton]
  unfold cc0__sc_embed_skel
  rw [wp_bind]
  iintro ⟨#Hmw, #Hwm, Hs, Ht, Hl, Ho, H0, H1, H2, H3, H4, H5, H6, H7, H8, Hm0, Hm1, Hm2, Hm3, Hm4, Hm5, Hm6, Hm7, Hm8, HO⟩
  iapply (wp_wand_r Idealize.ShloMosaic.frame (wpE (defs₀ (F := F)) 𝒱₀ (V d (cV i) (jV i)) none) Set.univ)
  isplitl [Hs Ht Hl Ho H0 H1 H2 H3 H4 Hm0 Hm1 Hm2 Hm3 Hm4 HO]
  · iapply (hi_run d i s t l O W qs qo ιwm fo ∅)
    isplitr; · iexact Hmw
    isplitr; · iexact Hwm
    isplitl [Hs]; · iexact Hs
    isplitl [Ht]; · iexact Ht
    isplitl [Hl]; · iexact Hl
    isplitl [Ho]; · iexact Ho
    isplitl [H0]; · iexact H0
    isplitl [H1]; · iexact H1
    isplitl [H2]; · iexact H2
    isplitl [H3]; · iexact H3
    isplitl [H4]; · iexact H4
    isplitl [Hm0]; · iexact Hm0
    isplitl [Hm1]; · iexact Hm1
    isplitl [Hm2]; · iexact Hm2
    isplitl [Hm3]; · iexact Hm3
    isplitl [Hm4]; · iexact Hm4
    iexact HO
  iintro %v ⟨%hv, Hs, Ht, Hl, ⟨%f0, %e0, H0⟩, H1, H2, H3, Hm0, Hm1, Hm2, Hm3, ⟨%f4, HF⟩, %W1, HO⟩
  subst hv
  sl_exec
  by_cases hc : k0_cond1 i = 1#1
  · rw [dif_pos hc, wp_bind]
    iapply (wp_wand_r Idealize.ShloMosaic.frame (wpE (defs₀ (F := F)) 𝒱₀ (V d (cV i) (jV i)) none) Set.univ)
    isplitl [Hs Ht HF_dst H0 H5 H6 H7 H8 Hm5 Hm6 Hm7 Hm8 HO]
    · iapply (lo_run d i s t l hc O _ qs qo ιwm fo _ f0 e0)
      isplitr; · iexact Hmw
      isplitr; · iexact Hwm
      isplitl [Hs]; · iexact Hs
      isplitl [Ht]; · iexact Ht
      isplitl [HF_dst]; · iexact HF_dst
      isplitl [H0]; · iexact H0
      isplitl [H5]; · iexact H5
      isplitl [H6]; · iexact H6
      isplitl [H7]; · iexact H7
      isplitl [H8]; · iexact H8
      isplitl [Hm5]; · iexact Hm5
      isplitl [Hm6]; · iexact Hm6
      isplitl [Hm7]; · iexact Hm7
      isplitl [Hm8]; · iexact Hm8
      iexact HO
    iintro %_ ⟨Hs, Ht, H0, H5, H6, H7, Hm5, Hm6, Hm7, ⟨%f8, HG⟩, %W2, HO⟩
    sl_exec
    rw [wp_ret]
    imodintro
    isplitl [Hs]; · iexact Hs
    isplitl [Ht]; · iexact Ht
    isplitl [Hl]; · iexact Hl
    isplitl [HG_dst]
    · rw [← marks_yes i hc]
      iexact HG_dst
    isplitl [H0]; · iexists f0; iexact H0
    isplitl [H1]; · iexact H1
    isplitl [H2]; · iexact H2
    isplitl [H3]; · iexact H3
    isplitl [HF_src]; · iexists f4; iexact HF_src
    isplitl [H5]; · iexact H5
    isplitl [H6]; · iexact H6
    isplitl [H7]; · iexact H7
    isplitl [HG_src]; · iexists f8; iexact HG_src
    isplitl [Hm0]; · iexact Hm0
    isplitl [Hm1]; · iexact Hm1
    isplitl [Hm2]; · iexact Hm2
    isplitl [Hm3]; · iexact Hm3
    isplitl [HF]; · iexact HF
    isplitl [Hm5]; · iexact Hm5
    isplitl [Hm6]; · iexact Hm6
    isplitl [Hm7]; · iexact Hm7
    isplitl [HG]; · iexact HG
    iexists _
    iexact HO
  · rw [dif_neg hc]
    sl_exec
    rw [wp_ret]
    imodintro
    isplitl [Hs]; · iexact Hs
    isplitl [Ht]; · iexact Ht
    isplitl [Hl]; · iexact Hl
    isplitl [HF_dst]
    · rw [← marks_no i hc]
      iexact HF_dst
    isplitl [H0]; · iexists f0; iexact H0
    isplitl [H1]; · iexact H1
    isplitl [H2]; · iexact H2
    isplitl [H3]; · iexact H3
    isplitl [HF_src]; · iexists f4; iexact HF_src
    isplitl [H5]; · iexact H5
    isplitl [H6]; · iexact H6
    isplitl [H7]; · iexact H7
    isplitl [H8]; · iexact H8
    isplitl [Hm0]; · iexact Hm0
    isplitl [Hm1]; · iexact Hm1
    isplitl [Hm2]; · iexact Hm2
    isplitl [Hm3]; · iexact Hm3
    isplitl [HF]; · iexact HF
    isplitl [Hm5]; · iexact Hm5
    isplitl [Hm6]; · iexact Hm6
    isplitl [Hm7]; · iexact Hm7
    isplitl [Hm8]; · iexact Hm8
    iexists _
    iexact HO

end Tile

end Cert.Proof.KernelIdeal

end

end
-- ==== Proof.LaunchKernelIdeal.lean ====
/-
  The launch of the kernel: the two SparseCores' sixteen tiles each, what each is handed and hands back, the host operations before the
  call, and the run of the whole program with the result's value.
-/
module

public import proofs.«01_k».proof.Proof.BodyKernelIdeal
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.KernelIdeal

open Cert.KernelIdeal Cert.KernelIdeal.Gen Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (dealShare)
open Idealize.ShloMosaic.Tactic

variable {F : FTy → Type}

local notation "𝕄" => MT nD τ sig (HIx 1) (Elt F) ℕ (UU F) ℕ

-- the kernel's operands: the two embeddings, the padded weights, the result, and the tile's scratches
local notation "sV" => (Memref.whole Cert.KernelIdeal.main_arg1_scv : Memref Cert.KernelIdeal.sig Kind.scVector Space.hbm Cert.KernelIdeal.S1001x128 EltTy.f32)
local notation "tV" => (Memref.whole Cert.KernelIdeal.main_arg2_scv : Memref Cert.KernelIdeal.sig Kind.scVector Space.hbm Cert.KernelIdeal.S1001x128 EltTy.f32)
local notation "lV" => (Memref.whole Cert.KernelIdeal.main_v1_scv : Memref Cert.KernelIdeal.sig Kind.scVector Space.hbm Cert.KernelIdeal.S1024 EltTy.f32)
local notation "oV" => (Memref.whole Cert.KernelIdeal.main_v2_scv : Memref Cert.KernelIdeal.sig Kind.scVector Space.hbm Cert.KernelIdeal.S1001x128 EltTy.f32)
local notation "c0V" => (Memref.whole Cert.KernelIdeal.cc0_scratch0 : Memref Cert.KernelIdeal.sig Kind.scVector Space.vmem Cert.KernelIdeal.S1024 EltTy.f32)
local notation "c1V" => (Memref.whole Cert.KernelIdeal.cc0_scratch1 : Memref Cert.KernelIdeal.sig Kind.scVector Space.vmem Cert.KernelIdeal.S29x128 EltTy.f32)
local notation "c2V" => (Memref.whole Cert.KernelIdeal.cc0_scratch2 : Memref Cert.KernelIdeal.sig Kind.scVector Space.vmem Cert.KernelIdeal.S4x128 EltTy.f32)
local notation "c3V" => (Memref.whole Cert.KernelIdeal.cc0_scratch3 : Memref Cert.KernelIdeal.sig Kind.scVector Space.vmem Cert.KernelIdeal.S4x128 EltTy.f32)
local notation "c4V" => (Memref.whole Cert.KernelIdeal.cc0_scratch4 : Memref Cert.KernelIdeal.sig Kind.scVector Space.vmem Cert.KernelIdeal.S29x128 EltTy.f32)
local notation "c5V" => (Memref.whole Cert.KernelIdeal.cc0_scratch5 : Memref Cert.KernelIdeal.sig Kind.scVector Space.vmem Cert.KernelIdeal.S40x128 EltTy.f32)
local notation "c6V" => (Memref.whole Cert.KernelIdeal.cc0_scratch6 : Memref Cert.KernelIdeal.sig Kind.scVector Space.vmem Cert.KernelIdeal.S2x128 EltTy.f32)
local notation "c7V" => (Memref.whole Cert.KernelIdeal.cc0_scratch7 : Memref Cert.KernelIdeal.sig Kind.scVector Space.vmem Cert.KernelIdeal.S2x128 EltTy.f32)
local notation "c8V" => (Memref.whole Cert.KernelIdeal.cc0_scratch8 : Memref Cert.KernelIdeal.sig Kind.scVector Space.vmem Cert.KernelIdeal.S4x128 EltTy.f32)

variable [FloatOps F] [Named F]

abbrev K : SparseCore.Cfg τ sig (ΛP (F := F)) 1 := Cert.KernelIdeal.sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ (UU F) ℕ) := embL

/-! ## The launch memory and the buffers -/

variable (m : (ℓ : Loc nD τ sig) → Buf (Elt F) ℓ) (ρ : Dev nD → PrngReg)

abbrev sLoc (d : Dev nD) : Loc nD τ sig := (SparseCore.T d).loc main_arg1
abbrev tLoc (d : Dev nD) : Loc nD τ sig := (SparseCore.T d).loc main_arg2
abbrev lLoc (d : Dev nD) : Loc nD τ sig := (SparseCore.T d).loc main_v1
abbrev oLoc (d : Dev nD) : Loc nD τ sig := (SparseCore.T d).loc main_v2

/-! ## The host operations before the call -/

abbrev op1 : HloOp τ sig (Elt F) := StableHlo.reshape main_arg3 main_v0 (rfl : (.f32 : EltTy) = .f32) shapeCasts_S1001x1_S1001
abbrev op2 : HloOp τ sig (Elt F) := StableHlo.nullary main_c (constantI S_ 32 0#32)
abbrev op3 : HloOp τ sig (Elt F) := StableHlo.TRef.unary (.of main_c : StableHlo.TRef sig ⟨S_, .i32⟩) main_call0.v0 (sitofp .f32)
abbrev op4 : HloOp τ sig (Elt F) :=
  StableHlo.TRef.binary (.of main_v0 : StableHlo.TRef sig ⟨S1001, .f32⟩) main_call0.v0 main_call0.v1 (fun x v => pad S1024 ![0] ![23] ![0] x v pads_S1001_S1024_0230 h_S_)

/-- The TensorCore's arrays. -/
abbrev S12 : Finset (DevRef τ sig) := {Proc.devRef .tc (main_arg0 : Ref sig .tc), Proc.devRef .tc (main_arg1 : Ref sig .tc), Proc.devRef .tc (main_arg2 : Ref sig .tc), Proc.devRef .tc (main_arg3 : Ref sig .tc), Proc.devRef .tc (main_arg4 : Ref sig .tc), Proc.devRef .tc (main_arg5 : Ref sig .tc), Proc.devRef .tc (main_arg6 : Ref sig .tc), Proc.devRef .tc (main_v0 : Ref sig .tc), Proc.devRef .tc (main_c : Ref sig .tc), Proc.devRef .tc (main_call0_v0 : Ref sig .tc), Proc.devRef .tc (main_v1 : Ref sig .tc), Proc.devRef .tc (main_v2 : Ref sig .tc)}

/-- What the arrays hold at the launch, and at the call. -/
def V0 (d : Dev nD) : Valuation τ sig (Elt F) := fun b => m (d, b)
def V4 (d : Dev nD) : Valuation τ sig (Elt F) := (op4 (F := F)).result ((op3 (F := F)).result ((op2 (F := F)).result ((op1 (F := F)).result (V0 m d))))

/-- The weights as the kernel takes them: one a row, and zeros after the last. -/
def lam (d : Dev nD) : SL.Idx → F .f32 := V4 m d (Proc.devRef .tc (main_v1 : Ref sig .tc))

/-- The result. -/
def res (d : Dev nD) : SR.Idx → F .f32 := G tenth (m (sLoc d)) (m (tLoc d)) (lam m d)

theorem V4_keep (d : Dev nD) (b : DevRef τ sig) (h1 : b ∉ (op1 (F := F)).writes) (h2 : b ∉ (op2 (F := F)).writes) (h3 : b ∉ (op3 (F := F)).writes)
    (h4 : b ∉ (op4 (F := F)).writes) : V4 m d b = m (d, b) := by
  unfold V4
  rw [HloOp.result_of_not_mem _ _ h4, HloOp.result_of_not_mem _ _ h3, HloOp.result_of_not_mem _ _ h2, HloOp.result_of_not_mem _ _ h1]
  rfl

/-! ## What the handshakes carry -/

/-- The result as the write mode's target. -/
abbrev tg (d : Dev nD) : Tgt (Elt F) (oLoc d) := fun y => some (res m d y)

/-- A share of the three arrays the kernel reads and of the result in write mode, the places in `W` written. -/
def piece (d : Dev nD) (q : PosShare TreeShare) (W : Finset (Idx (oLoc d))) : sProp 𝕄 :=
  iprop((sLoc d ↦{q} m (sLoc d)) ∗ (tLoc d ↦{q} m (tLoc d)) ∗ (lLoc d ↦{q} (lam m d : Buf (Elt F) (lLoc d)))
    ∗ willBeTo wmE (oLoc d) Finset.univ q (m (oLoc d)) (tg m d) W)

instance piece_storable (d : Dev nD) (q : PosShare TreeShare) (W : Finset (Idx (oLoc d))) : Storable (upEmb : UEmb _ 𝕄) (piece m d q W) := by
  unfold piece; infer_instance

/-- The places tile `i` of core `c` writes, and those core `c` does. -/
def marksN (c i : ℕ) : Finset S1001x128.Idx :=
  Finset.univ.filter fun y => (min (58 * i + 29 * c + 100) 972 ≤ (y 0).val ∧ (y 0).val < min (58 * i + 29 * c + 100) 972 + 29)
    ∨ (8 * i + 4 * c < 100 ∧ 8 * i + 4 * c ≤ (y 0).val ∧ (y 0).val < 8 * i + 4 * c + 4)
def marksC (c : ℕ) : Finset S1001x128.Idx := (Finset.range 16).biUnion (marksN c)

theorem marks_eq (L : grid0.Coords) : marks L = marksN (L 0).val (L 1).val := rfl

theorem marks_all : (Finset.range 2).biUnion marksC = Finset.univ := by
  ext y
  simp only [Finset.mem_biUnion, Finset.mem_range, marksC, marksN, Finset.mem_filter, Finset.mem_univ, true_and, iff_true]
  have hy : (y 0).val < 1001 := (y 0).isLt
  by_cases h : (y 0).val < 100
  · exact ⟨(y 0).val / 4 % 2, by omega, (y 0).val / 8, by omega, Or.inr (by omega)⟩
  · by_cases h' : (y 0).val < 970
    · refine ⟨((y 0).val - 100) / 29 % 2, by omega, ((y 0).val - 100) / 29 / 2, by omega, Or.inl ?_⟩
      have : 58 * (((y 0).val - 100) / 29 / 2) + 29 * (((y 0).val - 100) / 29 % 2) + 100 ≤ 972 := by omega
      rw [min_eq_left this]
      omega
    · by_cases h'' : (y 0).val < 972
      · exact ⟨0, by omega, 15, by omega, Or.inl (by omega)⟩
      · exact ⟨1, by omega, 15, by omega, Or.inl (by omega)⟩

theorem no_marks (n : ℕ) : (Finset.range n).biUnion (fun _ => (∅ : Finset S1001x128.Idx)) = ∅ := by
  ext y
  simp

/-- A piece dealt into `n + 1`. -/
theorem piece_deal (d : Dev nD) (q : PosShare TreeShare) (n : ℕ) (W : ℕ → Finset S1001x128.Idx) :
    (piece m d q ((Finset.range (n + 1)).biUnion W) : sProp 𝕄) = bigSep Finset.univ fun i : Fin (n + 1) => piece m d (dealShare q (n + 1) i.val) (W i.val) := by
  have hw : (willBeTo wmE (oLoc d) Finset.univ q (m (oLoc d)) (tg m d) ((Finset.range (n + 1)).biUnion W) : sProp 𝕄)
      = bigSep Finset.univ fun i : Fin (n + 1) => willBeTo wmE (oLoc d) Finset.univ (dealShare q (n + 1) i.val) (m (oLoc d)) (tg m d) (W i.val) := by
    have h := WriteOut.willBeTo_deal (Ix := HIx 1) (Lvl := ℕ) (Name := ℕ) (emb := wmE) (ℓ := oLoc d) (I := Finset.univ) (f := m (oLoc d)) (g := tg m d) q n W
    rw [← h]
  unfold piece
  rw [WriteOut.pointsTo_dealt q n, WriteOut.pointsTo_dealt (ℓ := tLoc d) q n, WriteOut.pointsTo_dealt (ℓ := lLoc d) q n, hw,
    ← bigSep_sep', ← bigSep_sep', ← bigSep_sep']

abbrev coreShare (c : ℕ) : PosShare TreeShare := dealShare fullShare 2 c
abbrev tileShare (c i : ℕ) : PosShare TreeShare := dealShare (coreShare c) 16 i

/-- The write mode's invariant. -/
abbrev wmHere : sProp 𝕄 := iprop(∃ ιwm, wmInv (emb := wmE) ιwm)

/-- The one call hands each core a share of everything, the core each of its tiles a share of that, and they come back marked. -/
def P : (K (F := F)).Pay (nD := nD) (Val := Elt F) (Name := ℕ) (U := UU F) where
  st := fun q d c => match q with | 0 => piece m d (coreShare c.val) ∅
  dn := fun q d c => match q with | 0 => piece m d (coreShare c.val) (marksC c.val)
  go := fun q d c i => match q with | 0 => piece m d (tileShare c.val i.val) ∅
  td := fun q d c i => match q with | 0 => piece m d (tileShare c.val i.val) (marksN c.val i.val)
  x := fun _ _ => wmHere

instance P_storable : (P (F := F) m).IsStorable where
  st q d c := match q with | 0 => piece_storable m d _ _
  dn q d c := match q with | 0 => piece_storable m d _ _
  go q d c i := match q with | 0 => piece_storable m d _ _
  td q d c i := match q with | 0 => piece_storable m d _ _

/-! ## The task -/

section Tile

variable (d : Dev nD) (L : grid0.Coords)

abbrev cell0 (d : Dev nD) (L : grid0.Coords) : GSem nD τ sig := (V d (cV L) (jV L), .dma cc0_scoped0.sem)
abbrev cell1 (d : Dev nD) (L : grid0.Coords) : GSem nD τ sig := (V d (cV L) (jV L), .dma cc0_scoped1.sem)
abbrev cell2 (d : Dev nD) (L : grid0.Coords) : GSem nD τ sig := (V d (cV L) (jV L), .dma cc0_scoped2.sem)
abbrev cell3 (d : Dev nD) (L : grid0.Coords) : GSem nD τ sig := (V d (cV L) (jV L), .dma cc0_scoped3.sem)
abbrev cell4 (d : Dev nD) (L : grid0.Coords) : GSem nD τ sig := (V d (cV L) (jV L), .dma cc0_scoped4.sem)
abbrev cell5 (d : Dev nD) (L : grid0.Coords) : GSem nD τ sig := (V d (cV L) (jV L), .dma cc0_scoped5.sem)
abbrev cell6 (d : Dev nD) (L : grid0.Coords) : GSem nD τ sig := (V d (cV L) (jV L), .dma cc0_scoped6.sem)
abbrev cell7 (d : Dev nD) (L : grid0.Coords) : GSem nD τ sig := (V d (cV L) (jV L), .dma cc0_scoped7.sem)
abbrev cell8 (d : Dev nD) (L : grid0.Coords) : GSem nD τ sig := (V d (cV L) (jV L), .dma cc0_scoped8.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ semVal (cell8 d L) 0
          ∗ bigSep ((((((((((ownCells (V d (cV L) (jV L))).erase (cell0 d L)).erase (cell1 d L)).erase (cell2 d L)).erase (cell3 d L)).erase (cell4 d L)).erase (cell5 d L)).erase (cell6 d L)).erase (cell7 d L)).erase (cell8 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne (show (cc0_scoped1.sem : DmaSem sig) ≠ cc0_scoped0.sem by decide), (mem_ownCells (g := cell1 d L)).mpr ⟨rfl, by show (SemLoc.dma cc0_scoped1.sem : SemLoc sig).isScoped .scVector = true; decide⟩⟩),
    SparseCore.bigSep_erase' (Finset.mem_erase.mpr ⟨cell_ne (show (cc0_scoped2.sem : DmaSem sig) ≠ cc0_scoped1.sem by decide), Finset.mem_erase.mpr ⟨cell_ne (show (cc0_scoped2.sem : DmaSem sig) ≠ cc0_scoped0.sem by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne (show (cc0_scoped3.sem : DmaSem sig) ≠ cc0_scoped2.sem by decide), Finset.mem_erase.mpr ⟨cell_ne (show (cc0_scoped3.sem : DmaSem sig) ≠ cc0_scoped1.sem by decide), Finset.mem_erase.mpr ⟨cell_ne (show (cc0_scoped3.sem : DmaSem sig) ≠ cc0_scoped0.sem by decide), (mem_ownCells (g := cell3 d L)).mpr ⟨rfl, by show (SemLoc.dma cc0_scoped3.sem : SemLoc sig).isScoped .scVector = true; decide⟩⟩⟩⟩),
    SparseCore.bigSep_erase' (Finset.mem_erase.mpr ⟨cell_ne (show (cc0_scoped4.sem : DmaSem sig) ≠ cc0_scoped3.sem by decide), Finset.mem_erase.mpr ⟨cell_ne (show (cc0_scoped4.sem : DmaSem sig) ≠ cc0_scoped2.sem by decide), Finset.mem_erase.mpr ⟨cell_ne (show (cc0_scoped4.sem : DmaSem sig) ≠ cc0_scoped1.sem by decide), Finset.mem_erase.mpr ⟨cell_ne (show (cc0_scoped4.sem : DmaSem sig) ≠ cc0_scoped0.sem by decide), (mem_ownCells (g := cell4 d L)).mpr ⟨rfl, by show (SemLoc.dma cc0_scoped4.sem : SemLoc sig).isScoped .scVector = true; decide⟩⟩⟩⟩⟩),
    SparseCore.bigSep_erase' (Finset.mem_erase.mpr ⟨cell_ne (show (cc0_scoped5.sem : DmaSem sig) ≠ cc0_scoped4.sem by decide), Finset.mem_erase.mpr ⟨cell_ne (show (cc0_scoped5.sem : DmaSem sig) ≠ cc0_scoped3.sem by decide), Finset.mem_erase.mpr ⟨cell_ne (show (cc0_scoped5.sem : DmaSem sig) ≠ cc0_scoped2.sem by decide), Finset.mem_erase.mpr ⟨cell_ne (show (cc0_scoped5.sem : DmaSem sig) ≠ cc0_scoped1.sem by decide), Finset.mem_erase.mpr ⟨cell_ne (show (cc0_scoped5.sem : DmaSem sig) ≠ cc0_scoped0.sem by decide), (mem_ownCells (g := cell5 d L)).mpr ⟨rfl, by show (SemLoc.dma cc0_scoped5.sem : SemLoc sig).isScoped .scVector = true; decide⟩⟩⟩⟩⟩⟩),
    SparseCore.bigSep_erase' (Finset.mem_erase.mpr ⟨cell_ne (show (cc0_scoped6.sem : DmaSem sig) ≠ cc0_scoped5.sem by decide), Finset.mem_erase.mpr ⟨cell_ne (show (cc0_scoped6.sem : DmaSem sig) ≠ cc0_scoped4.sem by decide), Finset.mem_erase.mpr ⟨cell_ne (show (cc0_scoped6.sem : DmaSem sig) ≠ cc0_scoped3.sem by decide), Finset.mem_erase.mpr ⟨cell_ne (show (cc0_scoped6.sem : DmaSem sig) ≠ cc0_scoped2.sem by decide), Finset.mem_erase.mpr ⟨cell_ne (show (cc0_scoped6.sem : DmaSem sig) ≠ cc0_scoped1.sem by decide), Finset.mem_erase.mpr ⟨cell_ne (show (cc0_scoped6.sem : DmaSem sig) ≠ cc0_scoped0.sem by decide), (mem_ownCells (g := cell6 d L)).mpr ⟨rfl, by show (SemLoc.dma cc0_scoped6.sem : SemLoc sig).isScoped .scVector = true; decide⟩⟩⟩⟩⟩⟩⟩),
    SparseCore.bigSep_erase' (Finset.mem_erase.mpr ⟨cell_ne (show (cc0_scoped7.sem : DmaSem sig) ≠ cc0_scoped6.sem by decide), Finset.mem_erase.mpr ⟨cell_ne (show (cc0_scoped7.sem : DmaSem sig) ≠ cc0_scoped5.sem by decide), Finset.mem_erase.mpr ⟨cell_ne (show (cc0_scoped7.sem : DmaSem sig) ≠ cc0_scoped4.sem by decide), Finset.mem_erase.mpr ⟨cell_ne (show (cc0_scoped7.sem : DmaSem sig) ≠ cc0_scoped3.sem by decide), Finset.mem_erase.mpr ⟨cell_ne (show (cc0_scoped7.sem : DmaSem sig) ≠ cc0_scoped2.sem by decide), Finset.mem_erase.mpr ⟨cell_ne (show (cc0_scoped7.sem : DmaSem sig) ≠ cc0_scoped1.sem by decide), Finset.mem_erase.mpr ⟨cell_ne (show (cc0_scoped7.sem : DmaSem sig) ≠ cc0_scoped0.sem by decide), (mem_ownCells (g := cell7 d L)).mpr ⟨rfl, by show (SemLoc.dma cc0_scoped7.sem : SemLoc sig).isScoped .scVector = true; decide⟩⟩⟩⟩⟩⟩⟩⟩),
    SparseCore.bigSep_erase' (Finset.mem_erase.mpr ⟨cell_ne (show (cc0_scoped8.sem : DmaSem sig) ≠ cc0_scoped7.sem by decide), Finset.mem_erase.mpr ⟨cell_ne (show (cc0_scoped8.sem : DmaSem sig) ≠ cc0_scoped6.sem by decide), Finset.mem_erase.mpr ⟨cell_ne (show (cc0_scoped8.sem : DmaSem sig) ≠ cc0_scoped5.sem by decide), Finset.mem_erase.mpr ⟨cell_ne (show (cc0_scoped8.sem : DmaSem sig) ≠ cc0_scoped4.sem by decide), Finset.mem_erase.mpr ⟨cell_ne (show (cc0_scoped8.sem : DmaSem sig) ≠ cc0_scoped3.sem by decide), Finset.mem_erase.mpr ⟨cell_ne (show (cc0_scoped8.sem : DmaSem sig) ≠ cc0_scoped2.sem by decide), Finset.mem_erase.mpr ⟨cell_ne (show (cc0_scoped8.sem : DmaSem sig) ≠ cc0_scoped1.sem by decide), Finset.mem_erase.mpr ⟨cell_ne (show (cc0_scoped8.sem : DmaSem sig) ≠ cc0_scoped0.sem by decide), (mem_ownCells (g := cell8 d L)).mpr ⟨rfl, by show (SemLoc.dma cc0_scoped8.sem : SemLoc sig).isScoped .scVector = true; decide⟩⟩⟩⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)]

set_option maxHeartbeats 2000000 in
/-- The task on a vector subcore, from what it is handed to what it hands back. -/
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ wmHere ∗ piece m d q ∅
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_embed L sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8)
          fun _ => iprop(piece m d q (marks L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold piece
  iintro ⟨#Hlv, ⟨%ιwm, #Hwm⟩, ⟨Hs, Ht, Hl, Ho⟩, ⟨H0, H1, H2, H3, H4, H5, H6, H7, H8, Hbufs⟩, ⟨Hm0, Hm1, Hm2, Hm3, Hm4, Hm5, Hm6, Hm7, Hm8, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r Idealize.ShloMosaic.frame (wpE (defs₀ (F := F)) 𝒱₀ (V d (cV L) (jV L)) none) Set.univ)
  isplitr [Hbufs Hsems]
  · iapply (tile_run d L (m (sLoc d)) (m (tLoc d)) (lam m d) O W q q ιwm (m (oLoc d)))
    isplitl [Hmw]; · iexact Hmw
    isplitr; · iexact Hwm
    isplitl [Hs]; · iexact Hs
    isplitl [Ht]; · iexact Ht
    isplitl [Hl]; · iexact Hl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact HO
  iintro %_ ⟨Hs, Ht, Hl, Ho, H0, H1, H2, H3, H4, H5, H6, H7, H8, Hm0, Hm1, Hm2, Hm3, Hm4, Hm5, Hm6, Hm7, Hm8, %W', HO⟩
  isplitl [Hs Ht Hl Ho]
  · isplitl [Hs]; · iexact Hs
    isplitl [Ht]; · iexact Ht
    isplitl [Hl]; · iexact Hl
    iexact Ho
  isplitl [H0 H1 H2 H3 H4 H5 H6 H7 H8 Hbufs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hbufs
  isplitl [Hm0 Hm1 Hm2 Hm3 Hm4 Hm5 Hm6 Hm7 Hm8 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hsems
  iexists W'
  isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_embed (coordsV c s) sV (Memref.isWhole_whole _) tV (Memref.isWhole_whole _) lV (Memref.isWhole_whole _) oV (Memref.isWhole_whole _) c0V (Memref.isWhole_whole _) c1V (Memref.isWhole_whole _) c2V (Memref.isWhole_whole _) c3V (Memref.isWhole_whole _) c4V (Memref.isWhole_whole _) c5V (Memref.isWhole_whole _) c6V (Memref.isWhole_whole _) c7V (Memref.isWhole_whole _) c8V (Memref.isWhole_whole _) cc0_scoped0 cc0_scoped1 cc0_scoped2 cc0_scoped3 cc0_scoped4 cc0_scoped5 cc0_scoped6 cc0_scoped7 cc0_scoped8) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO (tileShare c.val i.val)

end Tile

theorem vecSplit : (K (F := F)).VecSplit' (P m) 0 := by
  intro d c
  show (piece m d (coreShare c.val) ∅ : sProp 𝕄) ⊢ |={Set.univ}=> iprop(
      (bigSep Finset.univ fun i : Fin 16 => piece m d (tileShare c.val i.val) ∅)
      ∗ ((bigSep Finset.univ fun i : Fin 16 => piece m d (tileShare c.val i.val) (marksN c.val i.val)) -∗ piece m d (coreShare c.val) (marksC c.val)))
  have h1 := piece_deal m d (coreShare c.val) 15 (fun _ => ∅)
  rw [no_marks] at h1
  have h2 := piece_deal m d (coreShare c.val) 15 (marksN c.val)
  unfold marksC
  rw [h1, h2]
  iintro H; imodintro
  isplitl [H]; · iexact H
  iintro H; iexact H

/-! ## The launch element -/

def u₀ : UU F := (initOf (K (F := F)).hsCells (K (F := F)).hsToks, (wm₀ nD τ sig (Elt F), 1))

theorem hu₀ : (ownU (u₀ (F := F)) : sProp 𝕄)
    ⊢ |={Set.univ}=> iprop(BI.own (EH (initOf (K (F := F)).hsCells (K (F := F)).hsToks)) ∗ (bigSep Finset.univ fun _ : Dev nD => wmHere)
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : WmRA nD τ sig (Elt F) × Counters)) $$ Hu
  icases H with ⟨HH, HW⟩
  ihave HW := (own_pair_emb (embR : Emb (WmRA nD τ sig (Elt F) × Counters) 𝕄) (wm₀ nD τ sig (Elt F)) (1 : Counters)) $$ HW
  icases HW with ⟨HW, -⟩
  ihave HW := (show iprop(BI.own ((Emb.trans (Emb.inl : Emb (WmRA nD τ sig (Elt F)) (WmRA nD τ sig (Elt F) × Counters)) embR : Emb _ 𝕄) (wm₀ nD τ sig (Elt F)))) ⊢ (ownU (wmE (wm₀ nD τ sig (Elt F))) : sProp 𝕄) from Entails.of_eq rfl) $$ HW
  imod (wmInv_alloc (Ix := HIx 1) (Lvl := ℕ) (Name := ℕ) (emb := (wmE : UEmb _ (UU F))) (E := Set.univ) ⟨m, fun _ => 0, fun _ => default⟩) $$ HW with ⟨%ιwm, -, #Hwm⟩
  imodintro
  isplitl [HH]; · iexact HH
  ihave #Hh := (show wmInv (emb := (wmE : UEmb _ (UU F))) ιwm ⊢ (wmHere : sProp 𝕄) by iintro H; iexists ιwm; iexact H) $$ Hwm
  isplitr
  · iapply (bigSep_of_persistent Finset.univ (wmHere : sProp 𝕄)); iexact Hh
  iapply (bigSep_intro_persistent (R := (wmHere : sProp 𝕄)) fun _ _ => bigSep_of_persistent Finset.univ (wmHere : sProp 𝕄))
  iexact Hh

/-! ## The program on the TensorCore -/

theorem held_S12 (d : Dev nD) (W : Valuation τ sig (Elt F)) :
    (held (T d) S12 W : sProp 𝕄) = iprop(((SparseCore.T d).loc main_arg0 ↦{fullShare} W (Proc.devRef .tc (main_arg0 : Ref sig .tc))) ∗ ((SparseCore.T d).loc main_arg1 ↦{fullShare} W (Proc.devRef .tc (main_arg1 : Ref sig .tc))) ∗ ((SparseCore.T d).loc main_arg2 ↦{fullShare} W (Proc.devRef .tc (main_arg2 : Ref sig .tc))) ∗ ((SparseCore.T d).loc main_arg3 ↦{fullShare} W (Proc.devRef .tc (main_arg3 : Ref sig .tc))) ∗ ((SparseCore.T d).loc main_arg4 ↦{fullShare} W (Proc.devRef .tc (main_arg4 : Ref sig .tc))) ∗ ((SparseCore.T d).loc main_arg5 ↦{fullShare} W (Proc.devRef .tc (main_arg5 : Ref sig .tc))) ∗ ((SparseCore.T d).loc main_arg6 ↦{fullShare} W (Proc.devRef .tc (main_arg6 : Ref sig .tc))) ∗ ((SparseCore.T d).loc main_v0 ↦{fullShare} W (Proc.devRef .tc (main_v0 : Ref sig .tc))) ∗ ((SparseCore.T d).loc main_c ↦{fullShare} W (Proc.devRef .tc (main_c : Ref sig .tc))) ∗ ((SparseCore.T d).loc main_call0_v0 ↦{fullShare} W (Proc.devRef .tc (main_call0_v0 : Ref sig .tc))) ∗ ((SparseCore.T d).loc main_v1 ↦{fullShare} W (Proc.devRef .tc (main_v1 : Ref sig .tc))) ∗ ((SparseCore.T d).loc main_v2 ↦{fullShare} W (Proc.devRef .tc (main_v2 : Ref sig .tc)))) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S12 (V0 m d) := by
  rw [held_S12]
  unfold unscopedBufs
  rw [show (Finset.univ.filter fun b : Ref sig .tc => ¬ b.isScoped) = {main_arg0, main_arg1, main_arg2, main_arg3, main_arg4, main_arg5, main_arg6, main_v0, main_c, main_call0_v0, main_v1, main_v2} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- What the arrays hold at the call. -/
theorem held_V4 (d : Dev nD) :
    (held (T d) S12 ((op4 (F := F)).result ((op3 (F := F)).result ((op2 (F := F)).result ((op1 (F := F)).result (V0 m d))))) : sProp 𝕄) = iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_v0 ↦{fullShare} V4 m d (Proc.devRef .tc (main_v0 : Ref sig .tc))) ∗ ((SparseCore.T d).loc main_c ↦{fullShare} V4 m d (Proc.devRef .tc (main_c : Ref sig .tc))) ∗ ((SparseCore.T d).loc main_call0_v0 ↦{fullShare} V4 m d (Proc.devRef .tc (main_call0_v0 : Ref sig .tc))) ∗ (lLoc d ↦{fullShare} (lam m d : Buf (Elt F) (lLoc d))) ∗ ((SparseCore.T d).loc main_v2 ↦{fullShare} m (oLoc d))) := by
  show held (T d) S12 (V4 m d) = _
  rw [held_S12]
  rw [V4_keep m d (Proc.devRef .tc (main_arg0 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg1 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg2 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg3 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg4 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg5 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_arg6 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide),
    V4_keep m d (Proc.devRef .tc (main_v2 : Ref sig .tc)) (show _ ∉ ({Proc.devRef .tc (main_v0 : Ref sig .tc)} : Finset (DevRef τ sig)) by decide) (show _ ∉ ({Proc.devRef .tc (main_c : Ref sig .tc)} : Finset (DevRef τ sig)) by decide) (show _ ∉ ({Proc.devRef .tc (main_call0_v0 : Ref sig .tc)} : Finset (DevRef τ sig)) by decide) (show _ ∉ ({Proc.devRef .tc (main_v1 : Ref sig .tc)} : Finset (DevRef τ sig)) by decide)]
  rfl

theorem st0_eq (d : Dev nD) : (bigSep Finset.univ fun c : Fin ((K (F := F)).nCore 0) => (P m).st 0 d c) = piece m d fullShare ∅ := by
  show (bigSep Finset.univ fun c : Fin 2 => piece m d (coreShare c.val) ∅) = _
  have h := piece_deal m d fullShare 1 (fun _ => ∅)
  rw [no_marks] at h
  exact h.symm
theorem dn0_eq (d : Dev nD) : (bigSep Finset.univ fun c : Fin ((K (F := F)).nCore 0) => (P m).dn 0 d c) = piece m d fullShare Finset.univ := by
  show (bigSep Finset.univ fun c : Fin 2 => piece m d (coreShare c.val) (marksC c.val)) = _
  have h := piece_deal m d fullShare 1 marksC
  rw [show (Finset.range (1 + 1)).biUnion marksC = Finset.univ from marks_all] at h
  exact h.symm

/-- What the program leaves: its arguments as they were, and the result. -/
abbrev FIN (d : Dev nD) : sProp 𝕄 := iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ (oLoc d ↦{fullShare} (res m d : Buf (Elt F) (oLoc d))))

theorem hop1 : (op1 (F := F)).bufs ⊆ S12 := show ({Proc.devRef .tc (main_arg3 : Ref sig .tc), Proc.devRef .tc (main_v0 : Ref sig .tc)} : Finset (DevRef τ sig)) ⊆ S12 by decide
theorem hop2 : (op2 (F := F)).bufs ⊆ S12 := show ({Proc.devRef .tc (main_c : Ref sig .tc)} : Finset (DevRef τ sig)) ⊆ S12 by decide
theorem hop3 : (op3 (F := F)).bufs ⊆ S12 := show ({Proc.devRef .tc (main_c : Ref sig .tc), Proc.devRef .tc (main_call0_v0 : Ref sig .tc)} : Finset (DevRef τ sig)) ⊆ S12 by decide
theorem hop4 : (op4 (F := F)).bufs ⊆ S12 := show ({Proc.devRef .tc (main_v0 : Ref sig .tc), Proc.devRef .tc (main_call0_v0 : Ref sig .tc), Proc.devRef .tc (main_v1 : Ref sig .tc)} : Finset (DevRef τ sig)) ⊆ S12 by decide

/-- The program on device `d`'s TensorCore: the weights reshaped and padded, the result put into write mode, the call, the result taken back. -/
theorem hmain (κ : GSem nD τ sig → ℕ) (d : Dev nD) :
    iprop((K (F := F)).ctx EH (P m) κ ∗ (K (F := F)).tcSt EH d 0 ∗ (K (F := F)).tcRes m ρ d ∗ wmHere)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, %ιwm, #Hwm⟩
  iapply (wp_hlo_within 𝒱 (SparseCore.T d) none Set.univ (op := op1) (S := S12) hop1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S12) hop2 (V := _)) $$ [Hb Hheld]
  · isplitl [Hb] <;> iassumption
  iintro ⟨Hb, Hheld⟩
  rw [wp_ret]; imodintro
  iapply (wp_hlo_within 𝒱 (SparseCore.T d) none Set.univ (op := op3) (S := S12) hop3 (V := _)) $$ [Hb Hheld]
  · isplitl [Hb] <;> iassumption
  iintro ⟨Hb, Hheld⟩
  rw [wp_ret]; imodintro
  iapply (wp_hlo_within 𝒱 (SparseCore.T d) none Set.univ (op := op4) (S := S12) hop4 (V := _)) $$ [Hb Hheld]
  · isplitl [Hb] <;> iassumption
  iintro ⟨Hb, Hheld⟩
  rw [wp_ret]; imodintro; imodintro
  ihave Hh := (Entails.of_eq (held_V4 (F := F) m d)) $$ Hheld
  icases Hh with ⟨H0, H1, H2, H3, H4, H5, H6, -, -, -, Hl, Ho⟩
  imod (pointsTo_castIn (tg m d)) $$ [Ho] with Ho
  · isplitr; · iexact Hwm
    iexact Ho
  iapply ((K (F := F)).wp_run (D (F := F)) 𝒱 (EH := EH) (P := P m) κ d 0) $$ [Hst H1 H2 Hl Ho Hb Hts H0 H3 H4 H5 H6]
  isplitr; · iexact Hctx
  isplitl [Hst]; · iexact Hst
  isplitl [H1 H2 Hl Ho]
  · rw [st0_eq]
    unfold piece
    isplitl [H1]; · iexact H1
    isplitl [H2]; · iexact H2
    isplitl [Hl]; · iexact Hl
    iexact Ho
  iintro ⟨Hst, Hdn⟩
  ihave Hdn' := (Entails.of_eq (dn0_eq m d)) $$ Hdn
  unfold piece
  icases Hdn' with ⟨H1, H2, Hl, Ho⟩
  imod (willBeTo_castOut_some) $$ [Ho] with Ho
  · isplitr; · iexact Hwm
    iexact Ho
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    iapply (Entails.of_eq (show (oLoc d ↦{fullShare} Finset.univ.piecewise (res m d) (m (oLoc d)) : sProp 𝕄) = (oLoc d ↦{fullShare} (res m d : Buf (Elt F) (oLoc d))) by
      rw [Finset.piecewise_univ]))
    iexact Ho
  isplitl [Hb]; · iexact Hb
  iexact Hts

/-- What a final memory holds. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem (oLoc d) = res m d

theorem agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5, H6, Ho⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ihave H := (agree s' _ _) $$ [HSI H4]
  · isplitl [HSI] <;> iassumption
  icases H with ⟨%h4, HSI⟩
  ihave H := (agree s' _ _) $$ [HSI H5]
  · isplitl [HSI] <;> iassumption
  icases H with ⟨%h5, HSI⟩
  ihave H := (agree s' _ _) $$ [HSI H6]
  · isplitl [HSI] <;> iassumption
  icases H with ⟨%h6, HSI⟩
  ihave H := (agree s' _ _) $$ [HSI Ho]
  · isplitl [HSI] <;> iassumption
  icases H with ⟨%ho, HSI⟩
  ipureintro; exact ⟨h0, h1, h2, h3, h4, h5, h6, ho⟩

/-! ## The program's run -/

def QC : PUnit × MemSt nD τ sig (Elt F) → Prop := fun r => (∀ c : Dev nD, r.2.mem ((SparseCore.T c).loc main_arg0) = m ((SparseCore.T c).loc main_arg0) ∧ r.2.mem ((SparseCore.T c).loc main_arg1) = m ((SparseCore.T c).loc main_arg1) ∧ r.2.mem ((SparseCore.T c).loc main_arg2) = m ((SparseCore.T c).loc main_arg2) ∧ r.2.mem ((SparseCore.T c).loc main_arg3) = m ((SparseCore.T c).loc main_arg3) ∧ r.2.mem ((SparseCore.T c).loc main_arg4) = m ((SparseCore.T c).loc main_arg4) ∧ r.2.mem ((SparseCore.T c).loc main_arg5) = m ((SparseCore.T c).loc main_arg5) ∧ r.2.mem ((SparseCore.T c).loc main_arg6) = m ((SparseCore.T c).loc main_arg6)
    ∧ r.2.mem (oLoc c) = res m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => wmHere) (FIN m) (u₀ (F := F)) (sep_elim_left.trans (hu₀ m)) (hmain m ρ) (fq m) (hfin m) (QC m) (fun _ h hz => ⟨h, hz⟩)

end Cert.Proof.KernelIdeal

end

end
-- ==== Proof.Reference.lean ====
/-
  The reference as one function of its arguments, what it computes at each element when the tree's index arrays are what they should be, and its run.
-/
module

public import proofs.«01_k».proof.Defs
public import proofs.«01_k».proof.Proof.Gen.ReferenceIdeal
public import Idealize.ShloMosaic.Lib.Claim
public import Idealize.ShloMosaic.Lib.Pointwise
public import Idealize.ShloMosaic.Lib.IdealHost
public import Idealize.ShloMosaic.Lib.Routing.Ops
public import Idealize.ShloMosaic.Lib.Routing.OpsPair

@[expose] public section

noncomputable section

namespace Cert.Proof.Ref

open Idealize.ShloMosaic Idealize.SL.Sem
open Cert.ReferenceIdeal Cert.ReferenceIdeal.Gen

/-! ## The reference's term -/

/-- An index array, a negative index taken from the end, as a column. -/
def wrapIx (ix : IVec S1000 32) : IVec S1000x1 32 :=
  broadcastInDim S1000x1 ![0] bcast_S1000_S1000x1_0
    (select (cmpi .slt ix (broadcastInDim S1000 ![] bcast_S_S1000 (constantI S_ 32 0#32)))
      (addi ix (broadcastInDim S1000 ![] bcast_S_S1000 (constantI S_ 32 1001#32))) ix)

/-- Which indices are in range. -/
def inRange (v5 : IVec S1000x1 32) : IVec S1000 1 :=
  Host.reduce IntOp.andi
    (andi (cmpi .sge v5 (broadcastInDim S1000x1 ![] bcast_S_S1000x1 (constantI S_ 32 0#32)))
      (cmpi .sle v5 (broadcastInDim S1000x1 ![0, 1] bcast_S1x1_S1000x1_0_1 (broadcastInDim S1x1 ![1] bcast_S1_S1x1_1 (constantI S1 32 1000#32)))))
    (constantI S_ 1 1#1) reducesTo_S1000x1_S1000_d1 h_S_

/-- The rows of `x` that `ix` names. -/
def take (x : FVec Ideal S1001x128 .f32) (ix : IVec S1000 32) : FVec Ideal S1000x128 .f32 :=
  select (broadcastInDim S1000x128 ![0] bcast_S1000_S1000x128_0 (inRange (wrapIx ix)))
    (Host.gather gather_S1001x128_S1000x1_S1000x128_1_0_n_n_0_1_1128 x (wrapIx ix))
    (broadcastInDim S1000x128 ![] bcast_S_S1000x128 (constant S_ .f32 0x7FC00000#32))

/-- One less the weights, over every lane. -/
def rest (la : FVec Ideal S1001x1 .f32) : FVec Ideal S1001x128 .f32 :=
  broadcastInDim S1001x128 ![0, 1] bcast_S1001x1_S1001x128_0_1
    (subf (broadcastInDim S1001x1 ![] bcast_S_S1001x1 (constant S_ .f32 0x3F800000#32)) la)

/-- Two arrays mixed by the weights. -/
def blend (a b : FVec Ideal S1001x128 .f32) (la : FVec Ideal S1001x1 .f32) : FVec Ideal S1001x128 .f32 :=
  addf (mulf a (broadcastInDim S1001x128 ![0, 1] bcast_S1001x1_S1001x128_0_1 la)) (mulf b (rest la))

/-- The children's rows, averaged over each parent. -/
def means (t : FVec Ideal S1001x128 .f32) (ci sg : IVec S1000 32) : FVec Ideal S100x128 .f32 :=
  Host.divf
    (Host.scatterAdd scatter_S100x128_S1000x1_S1000x128_1_0_0_1 (broadcastInDim S100x128 ![] bcast_S_S100x128 (constant S_ .f32 0x00000000#32))
      (broadcastInDim S1000x1 ![0] bcast_S1000_S1000x1_0 sg) (take t ci))
    (broadcastInDim S100x128 ![0, 1] bcast_S100x1_S100x128_0_1 (broadcastInDim S100x1 ![0] bcast_S100_S100x1_0
      (Host.scatterAdd scatter_S100_S1000x1_S1000_n_0_0_1 (broadcastInDim S100 ![] bcast_S_S100 (constant S_ .f32 0x00000000#32))
        (broadcastInDim S1000x1 ![0] bcast_S1000_S1000x1_0 sg) (broadcastInDim S1000 ![] bcast_S_S1000 (constant S_ .f32 0x3F800000#32)))))

/-- The reference's result. -/
def refFn (s t : FVec Ideal S1001x128 .f32) (la : FVec Ideal S1001x1 .f32) (cp ci sg : IVec S1000 32) : FVec Ideal S1001x128 .f32 :=
  addf
    (mulf (concatenate S1001x128 0 [⟨S1x128, extractStridedSlice S1x128 ![0, 0] s slices_S1001x128_S1x128_0_0⟩,
        ⟨S1000x128, take (addf (mulf s (broadcastInDim S1001x128 ![0, 1] bcast_S1001x1_S1001x128_0_1 la)) (mulf t (rest la))) cp⟩]
        concatenates_S1x128_S1000x128_S1001x128_d0)
      (broadcastInDim S1001x128 ![0, 1] bcast_S1001x1_S1001x128_0_1 la))
    (mulf (concatenate S1001x128 0 [⟨S100x128, means t ci sg⟩,
        ⟨S901x128, extractStridedSlice S901x128 ![100, 0] t slices_S1001x128_S901x128_100_0⟩]
        concatenates_S100x128_S901x128_S1001x128_d0)
      (rest la))

set_option maxRecDepth 4000 in
set_option maxHeartbeats 2000000 in
theorem run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v29) = refFn (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  rfl

/-! ## The reference at an element -/

theorem wrapIx_apply (ix : IVec S1000 32) (e : Fin 1000) (b : Fin 1001) (h : ix (ix1 e) = BitVec.ofNat 32 b.val) :
    wrapIx ix (ix2 e 0) = BitVec.ofNat 32 b.val := by
  pointwise [wrapIx]
  rw [h]
  revert b
  have : ∀ b : Fin 1001, Scalar.select (IntOp.cmpi CmpIPredicate.slt (BitVec.ofNat 32 b.val) 0#32) (IntOp.addi (BitVec.ofNat 32 b.val) 1001#32) (BitVec.ofNat 32 b.val)
      = BitVec.ofNat 32 b.val := by decide +kernel
  exact fun b _ => this b

theorem inRange_apply (v : IVec S1000x1 32) (e : Fin 1000) (b : Fin 1001) (h : v (ix2 e 0) = BitVec.ofNat 32 b.val) :
    inRange v (ix1 e) = 1#1 := by
  pointwise [inRange]
  have : ∀ b : Fin 1001, IntOp.andi (IntOp.cmpi CmpIPredicate.sge (BitVec.ofNat 32 b.val) 0#32) (IntOp.cmpi CmpIPredicate.sle (BitVec.ofNat 32 b.val) 1000#32) = 1#1 := by
    decide +kernel
  have hx : ∀ x : Fin 1, v (ix2 e x) = BitVec.ofNat 32 b.val := fun x => by rw [Subsingleton.elim x 0, h]
  simp only [hx, this]
  rfl

theorem take_apply (x : FVec Ideal S1001x128 .f32) (ix : IVec S1000 32) (e : Fin 1000) (c : Fin 128) (b : Fin 1001)
    (h : ix (ix1 e) = BitVec.ofNat 32 b.val) : take x ix (ix2 e c) = x (ix2 b c) := by
  have hw := wrapIx_apply ix e b h
  have hg : Host.gather gather_S1001x128_S1000x1_S1000x128_1_0_n_n_0_1_1128 x (wrapIx ix) (ix2 e c) = x (ix2 b c) :=
    Routing.gather_row _ rfl rfl rfl rfl rfl x (wrapIx ix) e c b hw (by decide)
  have hr := inRange_apply (wrapIx ix) e b hw
  pointwise [take]
  rw [hr, hg]
  rfl

/-! Where an update of the two scatters lands: at the parent its index names, on its own lane. -/

theorem sums_lands (idx : IVec S1000x1 32) (e : Fin 1000) (c' : Fin 128) (q p : Fin 100) (c : Fin 128) (h : idx (ix2 e 0) = BitVec.ofNat 32 q.val) :
    scatter_S100x128_S1000x1_S1000x128_1_0_0_1.resultIdx? (ix2 e c') idx = some (ix2 p c) ↔ q = p ∧ c' = c := by
  refine (Routing.resultIdx?_ix2 _ (ix2 e c') idx p c).trans ?_
  have h0 : scatter_S100x128_S1000x1_S1000x128_1_0_0_1.start (ix2 e c') idx 0 = (idx (ix2 e 0)).toInt := by
    refine congrArg (fun y => (idx y).toInt) (funext fun b => ?_)
    match b with
    | ⟨0, _⟩ => rfl
    | ⟨1, _⟩ => rfl
  have h1 : scatter_S100x128_S1000x1_S1000x128_1_0_0_1.start (ix2 e c') idx 1 = 0 := rfl
  have w0 : scatter_S100x128_S1000x1_S1000x128_1_0_0_1.window (ix2 e c') 0 = 0 := rfl
  have w1 : scatter_S100x128_S1000x1_S1000x128_1_0_0_1.window (ix2 e c') 1 = c'.val := rfl
  rw [h0, h1, w0, w1, h, StableHlo.Predicate.toInt_ofNat_small _ (by have := q.isLt; omega)]
  constructor
  · rintro ⟨a, b⟩
    exact ⟨Fin.ext (by omega), Fin.ext (by omega)⟩
  · rintro ⟨rfl, rfl⟩
    exact ⟨by omega, by omega⟩

theorem counts_lands (idx : IVec S1000x1 32) (e : Fin 1000) (q p : Fin 100) (h : idx (ix2 e 0) = BitVec.ofNat 32 q.val) :
    scatter_S100_S1000x1_S1000_n_0_0_1.resultIdx? (ix1 e) idx = some (ix1 p) ↔ q = p := by
  refine (Routing.resultIdx?_ix1 _ (ix1 e) idx p).trans ?_
  have h0 : scatter_S100_S1000x1_S1000_n_0_0_1.start (ix1 e) idx 0 = (idx (ix2 e 0)).toInt := by
    refine congrArg (fun y => (idx y).toInt) (funext fun b => ?_)
    match b with
    | ⟨0, _⟩ => rfl
    | ⟨1, _⟩ => rfl
  have w0 : scatter_S100_S1000x1_S1000_n_0_0_1.window (ix1 e) 0 = 0 := rfl
  rw [h0, w0, h, StableHlo.Predicate.toInt_ofNat_small _ (by have := q.isLt; omega)]
  constructor
  · intro a
    exact Fin.ext (by omega)
  · rintro rfl
    omega

/-- A sum over the thousand children of what belongs to parent `p` is a sum over its ten. -/
theorem sum_kids (p : Fin 100) (f : Fin 1000 → EReal) :
    (∑ e : Fin 1000, if (⟨e.val / 10, by omega⟩ : Fin 100) = p then f e else 0) = ∑ k : Fin 10, f ⟨10 * p.val + k.val, by omega⟩ := by
  rw [← Equiv.sum_comp (finProdFinEquiv (m := 100) (n := 10)) (fun e : Fin 1000 => if (⟨e.val / 10, by omega⟩ : Fin 100) = p then f e else 0),
    Fintype.sum_prod_type, Finset.sum_eq_single p]
  · refine Finset.sum_congr rfl fun k _ => ?_
    have hk : (finProdFinEquiv (p, k)).val = k.val + 10 * p.val := rfl
    rw [if_pos (Fin.ext (by rw [Fin.val_mk, hk]; omega))]
    exact congrArg f (Fin.ext (by rw [hk]; simp only; omega))
  · intro q _ hq
    refine Finset.sum_eq_zero fun k _ => ?_
    have hk : (finProdFinEquiv (q, k)).val = k.val + 10 * q.val := rfl
    rw [if_neg fun h => hq ?_]
    have := congrArg Fin.val h
    rw [Fin.val_mk, hk] at this
    exact Fin.ext (by omega)
  · intro h
    exact absurd (Finset.mem_univ _) h

theorem scatterAdd_eq {a i u : Shape} (d : ScatterDims a i u) (x : FVec Ideal a .f32) (idx : IVec i 32) (upd : FVec Ideal u .f32) (y : a.Idx) :
    Host.scatterAdd d x idx upd y = x y + ∑ j ∈ Finset.univ.filter (fun j => d.resultIdx? j idx = some y), upd j := rfl

variable {ci sg : IVec S1000 32}

theorem sums_apply (x : FVec Ideal S1000x128 .f32) (hsg : ∀ e : Fin 1000, sg (ix1 e) = BitVec.ofNat 32 (e.val / 10)) (p : Fin 100) (c : Fin 128) :
    Host.scatterAdd scatter_S100x128_S1000x1_S1000x128_1_0_0_1 (broadcastInDim S100x128 ![] bcast_S_S100x128 (constant S_ .f32 0x00000000#32))
      (broadcastInDim S1000x1 ![0] bcast_S1000_S1000x1_0 sg) x (ix2 p c)
      = ∑ k : Fin 10, x (ix2 ⟨10 * p.val + k.val, by omega⟩ c) := by
  have hz : broadcastInDim S100x128 ![] bcast_S_S100x128 (constant (F := Ideal) S_ .f32 0x00000000#32) (ix2 p c) = 0 := by pointwise
  have hi : ∀ e : Fin 1000, broadcastInDim S1000x1 ![0] bcast_S1000_S1000x1_0 sg (ix2 e 0) = BitVec.ofNat 32 (e.val / 10) := fun e => by
    pointwise
    exact hsg e
  rw [scatterAdd_eq, hz, zero_add, Finset.sum_filter, sum_idx2]
  refine (Finset.sum_congr rfl fun e _ => ?_).trans (sum_kids p fun e => x (ix2 e c))
  have hl : ∀ c' : Fin 128, _ := fun c' => sums_lands _ e c' ⟨e.val / 10, by omega⟩ p c (hi e)
  simp only [hl]
  by_cases h : (⟨e.val / 10, by omega⟩ : Fin 100) = p
  · simp only [h, true_and, if_true, Finset.sum_ite_eq', Finset.mem_univ]
  · simp only [h, false_and, if_false, Finset.sum_const_zero]

theorem counts_apply (hsg : ∀ e : Fin 1000, sg (ix1 e) = BitVec.ofNat 32 (e.val / 10)) (p : Fin 100) :
    Host.scatterAdd scatter_S100_S1000x1_S1000_n_0_0_1 (broadcastInDim S100 ![] bcast_S_S100 (constant (F := Ideal) S_ .f32 0x00000000#32))
        (broadcastInDim S1000x1 ![0] bcast_S1000_S1000x1_0 sg) (broadcastInDim S1000 ![] bcast_S_S1000 (constant (F := Ideal) S_ .f32 0x3F800000#32)) (ix1 p)
      = ((10 : ℝ) : EReal) := by
  have hz : broadcastInDim S100 ![] bcast_S_S100 (constant (F := Ideal) S_ .f32 0x00000000#32) (ix1 p) = 0 := by pointwise
  have ho : ∀ e : Fin 1000, broadcastInDim S1000 ![] bcast_S_S1000 (constant (F := Ideal) S_ .f32 0x3F800000#32) (ix1 e) = 1 := fun e => by pointwise
  have hi : ∀ e : Fin 1000, broadcastInDim S1000x1 ![0] bcast_S1000_S1000x1_0 sg (ix2 e 0) = BitVec.ofNat 32 (e.val / 10) := fun e => by
    pointwise
    exact hsg e
  rw [scatterAdd_eq, hz, zero_add, Finset.sum_filter, sum_idx1]
  refine (Finset.sum_congr rfl fun e _ => ?_).trans ((sum_kids p fun _ => 1).trans ?_)
  · have hl := counts_lands _ e ⟨e.val / 10, by omega⟩ p (hi e)
    simp only [hl, ho]
  · simp
    rfl

theorem means_apply (t : FVec Ideal S1001x128 .f32) (hci : ∀ e : Fin 1000, ci (ix1 e) = BitVec.ofNat 32 (e.val + 1))
    (hsg : ∀ e : Fin 1000, sg (ix1 e) = BitVec.ofNat 32 (e.val / 10)) (p : Fin 100) (c : Fin 128) :
    means t ci sg (ix2 p c) = (∑ k : Fin 10, t (ix2 ⟨10 * p.val + k.val + 1, by omega⟩ c)) * ((10⁻¹ : ℝ) : EReal) := by
  have hs := sums_apply (take t ci) hsg p c
  have hc := counts_apply hsg p
  have ht : ∀ k : Fin 10, take t ci (ix2 ⟨10 * p.val + k.val, by omega⟩ c) = t (ix2 ⟨10 * p.val + k.val + 1, by omega⟩ c) := fun k =>
    take_apply t ci _ c _ (hci _)
  simp only [ht] at hs
  pointwise [means]
  rw [hs, hc]
  exact (Ideal.div_coe (by norm_num) _).trans (by rw [one_div])

theorem rest_apply (la : FVec Ideal S1001x1 .f32) (r : Fin 1001) (c : Fin 128) : rest la (ix2 r c) = 1 - la (ix2 r 0) := by
  pointwise [rest]

/-- The reference's element `c` of row `r`, over the tree. -/
theorem refFn_apply (s t : FVec Ideal S1001x128 .f32) (la : FVec Ideal S1001x1 .f32) (cp : IVec S1000 32)
    (hcp : ∀ e : Fin 1000, cp (ix1 e) = BitVec.ofNat 32 (e.val / 10)) (hci : ∀ e : Fin 1000, ci (ix1 e) = BitVec.ofNat 32 (e.val + 1))
    (hsg : ∀ e : Fin 1000, sg (ix1 e) = BitVec.ofNat 32 (e.val / 10)) (r : Fin 1001) (c : Fin 128) :
    refFn s t la cp ci sg (ix2 r c)
      = (if r.val < 1 then s (ix2 r c)
          else s (ix2 ⟨(r.val - 1) / 10, by omega⟩ c) * la (ix2 ⟨(r.val - 1) / 10, by omega⟩ 0)
            + t (ix2 ⟨(r.val - 1) / 10, by omega⟩ c) * (1 - la (ix2 ⟨(r.val - 1) / 10, by omega⟩ 0))) * la (ix2 r 0)
        + (if h : r.val < 100 then (∑ k : Fin 10, t (ix2 ⟨10 * r.val + k.val + 1, by omega⟩ c)) * ((10⁻¹ : ℝ) : EReal) else t (ix2 r c))
          * (1 - la (ix2 r 0)) := by
  have hr := rest_apply la r c
  pointwise [refFn]
  rw [hr]
  congr 2
  · split
    · rfl
    · next h =>
      refine (take_apply _ cp ⟨r.val - 1, by omega⟩ c ⟨(r.val - 1) / 10, by omega⟩ (hcp _)).trans ?_
      have hr' := rest_apply la ⟨(r.val - 1) / 10, by omega⟩ c
      pointwise
      rw [hr']
  · split
    · next h => exact means_apply t hci hsg ⟨r.val, h⟩ c
    · next h => exact congrArg t (congrArg (ix2 · c) (Fin.ext (by simp only; omega)))

end Cert.Proof.Ref

end

end
-- ==== Proof.Tree.lean ====
/-
  What the precondition says of the three index arrays: edge `e` of the tree has parent `e / 10` and child `e + 1`.
-/
module

public import proofs.«01_k».proof.Pre_tree
public import Idealize.ShloMosaic.Lib.Pointwise
public import Idealize.ShloMosaic.Lib.ReduceAll
public import Idealize.ShloMosaic.Lib.Affine

@[expose] public section

noncomputable section

namespace Cert.Proof.Tree

open Idealize.ShloMosaic
open Cert.Pre_tree Cert.Pre_tree.Facts

theorem facts : Cert.Pre_tree.Facts := ⟨by decide, by decide, by decide⟩

variable [hF : Cert.Pre_tree.Facts]

/-- An edge's number divided by ten, rounding down, one number at a time. -/
theorem word_div : ∀ e : Fin 1000,
    Scalar.select
      (IntOp.andi
        (IntOp.cmpi (w := 32) .ne (if BitVec.ofNat 32 e.val = 0 then 0 else if (BitVec.ofNat 32 e.val).msb = true then -1 else 1)
          (if 10#32 = 0 then 0 else if (10#32).msb = true then -1 else 1))
        (IntOp.cmpi .ne (IntOp.remsi .host (BitVec.ofNat 32 e.val) 10#32) 0#32))
      (IntOp.subi (IntOp.divsi .host (BitVec.ofNat 32 e.val) 10#32) 1#32) (IntOp.divsi .host (BitVec.ofNat 32 e.val) 10#32)
      = BitVec.ofNat 32 (e.val / 10) := by decide +kernel

theorem div_apply (e : Fin 1000) :
    fn_floor_divide (F := Ideal) (iotaInDim S1000 32 0) (constantI S_ 32 10#32) (ix1 e) = BitVec.ofNat 32 (e.val / 10) := by
  pointwise [fn_floor_divide, fn_where]
  exact word_div e

/-- The precondition, read at an edge. -/
theorem of_pre (a0 : FVec Ideal S1 .f32) (a1 a2 : FVec Ideal S1001x128 .f32) (a3 : FVec Ideal S1001x1 .f32) (a4 a5 a6 : IVec S1000 32)
    (h : Cert.Pre_tree.fn (F := Ideal) a0 a1 a2 a3 a4 a5 a6 = fun _ => 1#1) :
    (∀ e : Fin 1000, a4 (ix1 e) = BitVec.ofNat 32 (e.val / 10)) ∧ (∀ e : Fin 1000, a5 (ix1 e) = BitVec.ofNat 32 (e.val + 1))
      ∧ ∀ e : Fin 1000, a6 (ix1 e) = BitVec.ofNat 32 (e.val / 10) := by
  have h0 := congrFun h (fun a => a.elim0)
  dsimp only [Cert.Pre_tree.fn] at h0
  obtain ⟨h12, h3⟩ := IntOp.andi_eq_one.1 h0
  obtain ⟨h1, h2⟩ := IntOp.andi_eq_one.1 h12
  haveI : Subsingleton S_.Idx := ⟨fun a b => funext fun x => x.elim0⟩
  refine ⟨fun e => ?_, fun e => ?_, fun e => ?_⟩
  · exact (IntOp.cmpi_eq.1 (Host.reduce_andi_all _ _ _ _ _ h1 (ix1 e))).trans (div_apply e)
  · refine (IntOp.cmpi_eq.1 (Host.reduce_andi_all _ _ _ _ _ h2 (ix1 e))).trans ?_
    pointwise
    exact (BitVec.ofNat_add _ _).symm
  · exact (IntOp.cmpi_eq.1 (Host.reduce_andi_all _ _ _ _ _ h3 (ix1 e))).trans (div_apply e)

end Cert.Proof.Tree

end

end
-- ==== Proof.Value.lean ====
/-
  At the idealized arithmetic, over the tree, what the kernel computes is what the reference computes.
-/
module

public import proofs.«01_k».proof.Proof.LaunchKernelIdeal
public import proofs.«01_k».proof.Proof.Reference
public import proofs.«01_k».proof.Proof.Tree

@[expose] public section

noncomputable section

namespace Cert.Proof.Value

open Idealize.ShloMosaic
open Cert.Proof.Rows

/-! ## The scalars -/

theorem one_eq : (one : Ideal .f32) = 1 := Ideal.ofBits_one_f32

theorem tenth_eq : (Cert.Proof.KernelIdeal.tenth : Ideal .f32) = ((10⁻¹ : ℝ) : EReal) :=
  IdealRules.named_const.ideal_named_scalar _ _ _ _ rfl

theorem mix_eq (a b l : Ideal .f32) : mix a b l = (a * l + b * (1 - l) : EReal) := by
  show (a * l + b * ((one : Ideal .f32) - l : EReal) : EReal) = _
  rw [one_eq]

theorem root_zero : (root 0 : Ideal .f32) = 1 := by
  have h : Scalar.extui (Scalar.cmpi .eq (BitVec.ofNat 32 0) 0#32) = (1#32 : BitVec 32) := by decide
  unfold root
  rw [h]
  show (((1#32 : BitVec 32).toInt : ℝ) : EReal) = 1
  norm_num

theorem root_succ {r : ℕ} (h0 : 0 < r) (h : r < 1001) : (root r : Ideal .f32) = 0 := by
  have h' : ∀ r : Fin 1001, 0 < r.val → Scalar.extui (Scalar.cmpi .eq (BitVec.ofNat 32 r.val) 0#32) = (0#32 : BitVec 32) := by decide +kernel
  unfold root
  rw [h' ⟨r, h⟩ h0]
  show (((0#32 : BitVec 32).toInt : ℝ) : EReal) = 0
  norm_num

/-- The root's flag picks its first operand at the root and its second at the other rows. -/
theorem pick_one (f a b : Ideal .f32) (h : f = (1 : EReal)) : FloatOps.addf (FloatOps.mulf f a) (FloatOps.mulf (Scalar.subf one f) b) = a := by
  show (f * a + ((one : Ideal .f32) - f : EReal) * b : EReal) = a
  rw [one_eq, h, show (1 - 1 : EReal) = 0 by rw [← EReal.coe_one, ← EReal.coe_sub, sub_self, EReal.coe_zero], one_mul, zero_mul, add_zero]

theorem pick_zero (f a b : Ideal .f32) (h : f = (0 : EReal)) : FloatOps.addf (FloatOps.mulf f a) (FloatOps.mulf (Scalar.subf one f) b) = b := by
  show (f * a + ((one : Ideal .f32) - f : EReal) * b : EReal) = b
  rw [one_eq, h, sub_zero, one_mul, zero_mul, zero_add]

/-! ## The padded weights -/

variable (m : (ℓ : Loc Cert.KernelIdeal.nD Cert.KernelIdeal.τ Cert.KernelIdeal.sig) → Buf (Elt Ideal) ℓ) (d : Dev Cert.KernelIdeal.nD)

/-- The weights' array. -/
abbrev w : FVec Ideal Cert.KernelIdeal.S1001x1 .f32 := m ((SparseCore.T d).loc Cert.KernelIdeal.main_arg3)

theorem lam_eq : Cert.Proof.KernelIdeal.lam m d
    = pad Cert.KernelIdeal.S1024 ![0] ![23] ![0] (shapeCast Cert.KernelIdeal.S1001 (w m d) Cert.KernelIdeal.Gen.shapeCasts_S1001x1_S1001)
        (sitofp .f32 (constantI Cert.KernelIdeal.S_ 32 0#32)) Cert.KernelIdeal.Gen.pads_S1001_S1024_0230 Cert.KernelIdeal.Gen.h_S_ := by
  rfl

theorem lam_apply (r : Fin 1001) : Cert.Proof.KernelIdeal.lam m d (lx r.val) = w m d (ix2 r 0) := by
  have hx : lx r.val = ix1 (⟨r.val, by omega⟩ : Fin 1024) := lx_eq rfl
  rw [lam_eq, hx]
  pointwise

/-! ## The rows -/

theorem rc_ix2 (r : ℕ) (h : r < 1001) (c : Fin 128) : rc r c = ix2 (⟨r, h⟩ : Fin 1001) c := rc_eq rfl rfl

variable (s t : FVec Ideal SR .f32)

theorem kids_eq (r : ℕ) (h : r < 100) (c : Fin 128) :
    kids t r c = ∑ k : Fin 10, (t (ix2 (⟨10 * r + k.val + 1, by omega⟩ : Fin 1001) c) : EReal) := by
  have hk : ∀ k : Fin 10, t (ix2 (⟨10 * r + k.val + 1, by omega⟩ : Fin 1001) c) = t (rc (10 * r + (k.val + 1)) c) := fun k =>
    congrArg t (rc_ix2 _ (by omega) c).symm
  simp only [hk, Fin.sum_univ_castSucc, Fin.sum_univ_zero, zero_add]
  rfl

/-- The whole result, over the tree. -/
theorem res_eq (cp ci sg : IVec Cert.ReferenceIdeal.S1000 32) (hcp : ∀ e : Fin 1000, cp (ix1 e) = BitVec.ofNat 32 (e.val / 10))
    (hci : ∀ e : Fin 1000, ci (ix1 e) = BitVec.ofNat 32 (e.val + 1)) (hsg : ∀ e : Fin 1000, sg (ix1 e) = BitVec.ofNat 32 (e.val / 10)) :
    G Cert.Proof.KernelIdeal.tenth s t (Cert.Proof.KernelIdeal.lam m d) = Cert.Proof.Ref.refFn s t (w m d) cp ci sg := by
  funext y
  obtain ⟨r, c, rfl⟩ : ∃ (r : Fin 1001) (c : Fin 128), y = ix2 r c := ⟨y 0, y 1, (rc_ix2 _ (y 0).isLt _).symm.trans (rc_eq rfl rfl) |>.symm⟩
  have hr := r.isLt
  rw [Cert.Proof.Ref.refFn_apply s t (w m d) cp hcp hci hsg r c]
  show (if r.val < 100 then loRow _ s t _ r.val c else hiRow s t _ r.val c) = _
  have hp : (r.val - 1) / 10 < 1001 := by omega
  have lr := lam_apply m d r
  have lp : Cert.Proof.KernelIdeal.lam m d (lx ((r.val - 1) / 10)) = w m d (ix2 ⟨(r.val - 1) / 10, hp⟩ 0) := lam_apply m d ⟨(r.val - 1) / 10, hp⟩
  by_cases h : r.val < 100
  · rw [if_pos h, dif_pos h, loRow, mix_eq, mix_eq, kids_eq t r.val h c, tenth_eq, lr, lp, rc_ix2 _ hp]
    by_cases h0 : r.val < 1
    · have hz : r.val = 0 := by omega
      rw [if_pos h0, pick_one _ _ _ (by rw [hz]; exact root_zero), show (4 * (r.val / 4) - 1) / 10 = r.val by omega, rc_ix2 _ hr]
      rfl
    · rw [if_neg h0, pick_zero _ _ _ (root_succ (by omega) hr)]
      rfl
  · rw [if_neg h, dif_neg h, if_neg (by omega), hiRow, mix_eq, mix_eq, lr, lp, rc_ix2 _ hp, rc_ix2 _ hr]

end Cert.Proof.Value

end

end
-- ==== Proof.lean ====
/-
  The certificate's claims, put together: each program's run ends with the arguments as they were and the semaphores at zero, the one
  named constant is the number that its word rounds, and at the idealized arithmetic, over the tree, the kernel's result is the
  reference's.
-/
module

public import proofs.«01_k».proof.Defs
public import proofs.«01_k».proof.Proof.LaunchKernel
public import proofs.«01_k».proof.Proof.Value

@[expose] public section

noncomputable section

namespace Cert.Proof

open Idealize.ShloMosaic Idealize.SL.Sem

/-! ## The frames -/

theorem frame_kernel : Cert.quiescent_Kernel (hKernel := Cert.Kernel.Gen.facts) := fun m g _ =>
  (θ_run _ _ _).mono (fun _ ⟨h, hz⟩ => ⟨fun c => by
    obtain ⟨h0, h1, h2, h3, h4, h5, h6, _⟩ := h c
    exact ⟨h0, h1, h2, h3, h4, h5, h6⟩, hz⟩) (Cert.Proof.Kernel.run_main m g)

theorem frame_ideal : Cert.quiescent_KernelIdeal (hKernelIdeal := Cert.KernelIdeal.Gen.facts) := fun m g _ =>
  (θ_run _ _ _).mono (fun _ ⟨h, hz⟩ => ⟨fun c => by
    obtain ⟨h0, h1, h2, h3, h4, h5, h6, _⟩ := h c
    exact ⟨h0, h1, h2, h3, h4, h5, h6⟩, hz⟩) (Cert.Proof.KernelIdeal.run_main m g)

/-- The reference declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Ref.run m g)

/-! ## The named constant -/

theorem preserves : Cert.preserves_Kernel_KernelIdeal := IdealRules.named_const.statement _ _ _ _ _ rfl

/-! ## The values -/

theorem algebraic : Cert.algebraic_KernelIdeal_ReferenceIdeal_pre_tree (hKernelIdeal := Cert.KernelIdeal.Gen.facts)
    (hReferenceIdeal := Cert.ReferenceIdeal.Gen.facts) (hPre_tree := Tree.facts) := by
  intro m g m' g' hpre hargs
  refine ⟨fun c => Cert.Proof.KernelIdeal.res m c, ?_, ?_⟩
  · refine (θ_run _ _ _).mono (fun _ ⟨h, _⟩ c => ?_) (Cert.Proof.KernelIdeal.run_main m g)
    obtain ⟨h0, h1, h2, h3, h4, h5, h6, hv⟩ := h c
    exact ⟨hv, h0, h1, h2, h3, h4, h5, h6⟩
  · refine (θ_run _ _ _).mono (fun _ h c => ?_) (Ref.run m' g')
    obtain ⟨hv, hk⟩ := h c
    refine ⟨hv.trans ?_, hk⟩
    obtain ⟨_, a1, a2, a3, a4, a5, a6⟩ := hargs c
    obtain ⟨hcp, hci, hsg⟩ := Tree.of_pre (hF := Tree.facts) _ _ _ _ _ _ _ (hpre c)
    rw [a1, a2, a3, a4, a5, a6]
    exact (Value.res_eq m c _ _ _ _ _ hcp hci hsg).symm

theorem claim : Cert.Claim :=
  ⟨Cert.Kernel.Gen.facts, Cert.KernelIdeal.Gen.facts, Cert.ReferenceIdeal.Gen.facts, Tree.facts,
    frame_kernel, frame_ideal, fun m g _ => frame_ideal m g trivial, frame_reference, fun m g _ => frame_reference m g trivial, preserves, algebraic⟩

end Cert.Proof

end

end
